-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x196x192 : Shape := ⟨4, ![8, 64, 196, 192]⟩
abbrev S8x64x192x196 : Shape := ⟨4, ![8, 64, 192, 196]⟩
abbrev S8x32x384x196 : Shape := ⟨4, ![8, 32, 384, 196]⟩
abbrev S96x196 : Shape := ⟨2, ![96, 196]⟩
abbrev S_ : Shape := ⟨0, ![]⟩
abbrev S1x1x96x196 : Shape := ⟨4, ![1, 1, 96, 196]⟩
abbrev S8x32x196x384 : Shape := ⟨4, ![8, 32, 196, 384]⟩

abbrev nBuf : Table → Nat
  | .hbm => 4
  | .local .scVector .vmem => 4
  | _ => 0

abbrev bufTy : (tb : Table) → Fin (nBuf tb) → BufTy
  | .hbm, ⟨0, _⟩ => ⟨S8x64x196x192, .f32⟩
  | .hbm, ⟨1, _⟩ => ⟨S8x64x192x196, .f32⟩
  | .hbm, ⟨2, _⟩ => ⟨S8x32x384x196, .f32⟩
  | .hbm, ⟨3, _⟩ => ⟨S8x32x196x384, .f32⟩
  | .local .scVector .vmem, ⟨0, _⟩ => ⟨S96x196, .f32⟩
  | .local .scVector .vmem, ⟨1, _⟩ => ⟨S96x196, .f32⟩
  | .local .scVector .vmem, ⟨2, _⟩ => ⟨S96x196, .f32⟩
  | .local .scVector .vmem, ⟨3, _⟩ => ⟨S96x196, .f32⟩
  | _, _ => ⟨S8x64x196x192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_12 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c2_i32_11 : BitVec 32 := 2#32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let v31 : BitVec 32 := Scalar.muli c2_i32_11 v30
  let v32 : BitVec 32 := Scalar.addi v31 c0_i32_12
  let c0_i32_13 : BitVec 32 := 0#32
  let c0_i32_14 : BitVec 32 := 0#32
  ![v20.toNat, v32.toNat, 0, 0]
def k0_off2 (i : grid0.Coords) (c0_i32_17 : BitVec 32) (c0_i32_32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v37 : BitVec 32 := Scalar.addi v2 c0_i32_17
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c32_i32_18 : BitVec 32 := 32#32
  let c0_i32_21 : BitVec 32 := 0#32
  let v44 : BitVec 1 := Scalar.cmpi .sgt c32_i32_18 c0_i32_21
  let v45 : BitVec 32 := Scalar.extui v44
  let c0_i32_22 : BitVec 32 := 0#32
  let v46 : BitVec 1 := Scalar.cmpi .slt c32_i32_18 c0_i32_22
  let v47 : BitVec 32 := Scalar.extui v46
  let v48 : BitVec 32 := Scalar.subi v45 v47
  let v49 : BitVec 1 := Scalar.cmpi .ne v43 v48
  let v50 : BitVec 32 := Scalar.remsi v37 c32_i32_18
  let c0_i32_23 : BitVec 32 := 0#32
  let v51 : BitVec 1 := Scalar.cmpi .ne v50 c0_i32_23
  let v52 : BitVec 1 := Scalar.andi v49 v51
  let v38 : BitVec 32 := Scalar.divsi v37 c32_i32_18
  let c1_i32_24 : BitVec 32 := 1#32
  let v53 : BitVec 32 := Scalar.subi v38 c1_i32_24
  let v54 : BitVec 32 := Scalar.select v52 v53 v38
  let c2_i32_31 : BitVec 32 := 2#32
  let c32_i32_25 : BitVec 32 := 32#32
  let c0_i32_26 : BitVec 32 := 0#32
  let v55 : BitVec 1 := Scalar.cmpi .eq c32_i32_25 c0_i32_26
  let c1_i32_27 : BitVec 32 := 1#32
  let v56 : BitVec 32 := Scalar.select v55 c1_i32_27 c32_i32_25
  let v57 : BitVec 32 := Scalar.remsi v37 v56
  let c0_i32_29 : BitVec 32 := 0#32
  let v59 : BitVec 1 := Scalar.cmpi .slt v57 c0_i32_29
  let c0_i32_30 : BitVec 32 := 0#32
  let v60 : BitVec 1 := Scalar.cmpi .slt v56 c0_i32_30
  let v61 : BitVec 1 := Scalar.xori v59 v60
  let c0_i32_28 : BitVec 32 := 0#32
  let v58 : BitVec 1 := Scalar.cmpi .ne v57 c0_i32_28
  let v62 : BitVec 1 := Scalar.andi v61 v58
  let v63 : BitVec 32 := Scalar.addi v57 v56
  let v64 : BitVec 32 := Scalar.select v62 v63 v57
  let v65 : BitVec 32 := Scalar.muli c2_i32_31 v64
  let v66 : BitVec 32 := Scalar.addi v65 c0_i32_32
  let c96_i32 : BitVec 32 := 96#32
  let c0_i32_33 : BitVec 32 := 0#32
  ![v54.toNat, v66.toNat, 96, 0]
def k0_off3 (i : grid0.Coords) (c0_i32_60 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v109 : BitVec 32 := Scalar.addi v2 c0_i32_60
  let c0_i32_62 : BitVec 32 := 0#32
  let v111 : BitVec 1 := Scalar.cmpi .sgt v109 c0_i32_62
  let v112 : BitVec 32 := Scalar.extui v111
  let c0_i32_63 : BitVec 32 := 0#32
  let v113 : BitVec 1 := Scalar.cmpi .slt v109 c0_i32_63
  let v114 : BitVec 32 := Scalar.extui v113
  let v115 : BitVec 32 := Scalar.subi v112 v114
  let c32_i32_61 : BitVec 32 := 32#32
  let c0_i32_64 : BitVec 32 := 0#32
  let v116 : BitVec 1 := Scalar.cmpi .sgt c32_i32_61 c0_i32_64
  let v117 : BitVec 32 := Scalar.extui v116
  let c0_i32_65 : BitVec 32 := 0#32
  let v118 : BitVec 1 := Scalar.cmpi .slt c32_i32_61 c0_i32_65
  let v119 : BitVec 32 := Scalar.extui v118
  let v120 : BitVec 32 := Scalar.subi v117 v119
  let v121 : BitVec 1 := Scalar.cmpi .ne v115 v120
  let v122 : BitVec 32 := Scalar.remsi v109 c32_i32_61
  let c0_i32_66 : BitVec 32 := 0#32
  let v123 : BitVec 1 := Scalar.cmpi .ne v122 c0_i32_66
  let v124 : BitVec 1 := Scalar.andi v121 v123
  let v110 : BitVec 32 := Scalar.divsi v109 c32_i32_61
  let c1_i32_67 : BitVec 32 := 1#32
  let v125 : BitVec 32 := Scalar.subi v110 c1_i32_67
  let v126 : BitVec 32 := Scalar.select v124 v125 v110
  let c32_i32_68 : BitVec 32 := 32#32
  let c0_i32_69 : BitVec 32 := 0#32
  let v127 : BitVec 1 := Scalar.cmpi .eq c32_i32_68 c0_i32_69
  let c1_i32_70 : BitVec 32 := 1#32
  let v128 : BitVec 32 := Scalar.select v127 c1_i32_70 c32_i32_68
  let v129 : BitVec 32 := Scalar.remsi v109 v128
  let c0_i32_72 : BitVec 32 := 0#32
  let v131 : BitVec 1 := Scalar.cmpi .slt v129 c0_i32_72
  let c0_i32_73 : BitVec 32 := 0#32
  let v132 : BitVec 1 := Scalar.cmpi .slt v128 c0_i32_73
  let v133 : BitVec 1 := Scalar.xori v131 v132
  let c0_i32_71 : BitVec 32 := 0#32
  let v130 : BitVec 1 := Scalar.cmpi .ne v129 c0_i32_71
  let v134 : BitVec 1 := Scalar.andi v133 v130
  let v135 : BitVec 32 := Scalar.addi v129 v128
  let v136 : BitVec 32 := Scalar.select v134 v135 v129
  let c0_i32_74 : BitVec 32 := 0#32
  let c0_i32_75 : BitVec 32 := 0#32
  ![v126.toNat, v136.toNat, 0, 0]
def k0_off4 (i : grid0.Coords) (c0_i32_102 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v179 : BitVec 32 := Scalar.addi v2 c0_i32_102
  let c0_i32_104 : BitVec 32 := 0#32
  let v181 : BitVec 1 := Scalar.cmpi .sgt v179 c0_i32_104
  let v182 : BitVec 32 := Scalar.extui v181
  let c0_i32_105 : BitVec 32 := 0#32
  let v183 : BitVec 1 := Scalar.cmpi .slt v179 c0_i32_105
  let v184 : BitVec 32 := Scalar.extui v183
  let v185 : BitVec 32 := Scalar.subi v182 v184
  let c32_i32_103 : BitVec 32 := 32#32
  let c0_i32_106 : BitVec 32 := 0#32
  let v186 : BitVec 1 := Scalar.cmpi .sgt c32_i32_103 c0_i32_106
  let v187 : BitVec 32 := Scalar.extui v186
  let c0_i32_107 : BitVec 32 := 0#32
  let v188 : BitVec 1 := Scalar.cmpi .slt c32_i32_103 c0_i32_107
  let v189 : BitVec 32 := Scalar.extui v188
  let v190 : BitVec 32 := Scalar.subi v187 v189
  let v191 : BitVec 1 := Scalar.cmpi .ne v185 v190
  let v192 : BitVec 32 := Scalar.remsi v179 c32_i32_103
  let c0_i32_108 : BitVec 32 := 0#32
  let v193 : BitVec 1 := Scalar.cmpi .ne v192 c0_i32_108
  let v194 : BitVec 1 := Scalar.andi v191 v193
  let v180 : BitVec 32 := Scalar.divsi v179 c32_i32_103
  let c1_i32_109 : BitVec 32 := 1#32
  let v195 : BitVec 32 := Scalar.subi v180 c1_i32_109
  let v196 : BitVec 32 := Scalar.select v194 v195 v180
  let c32_i32_110 : BitVec 32 := 32#32
  let c0_i32_111 : BitVec 32 := 0#32
  let v197 : BitVec 1 := Scalar.cmpi .eq c32_i32_110 c0_i32_111
  let c1_i32_112 : BitVec 32 := 1#32
  let v198 : BitVec 32 := Scalar.select v197 c1_i32_112 c32_i32_110
  let v199 : BitVec 32 := Scalar.remsi v179 v198
  let c0_i32_114 : BitVec 32 := 0#32
  let v201 : BitVec 1 := Scalar.cmpi .slt v199 c0_i32_114
  let c0_i32_115 : BitVec 32 := 0#32
  let v202 : BitVec 1 := Scalar.cmpi .slt v198 c0_i32_115
  let v203 : BitVec 1 := Scalar.xori v201 v202
  let c0_i32_113 : BitVec 32 := 0#32
  let v200 : BitVec 1 := Scalar.cmpi .ne v199 c0_i32_113
  let v204 : BitVec 1 := Scalar.andi v203 v200
  let v205 : BitVec 32 := Scalar.addi v199 v198
  let v206 : BitVec 32 := Scalar.select v204 v205 v199
  let c96_i32_116 : BitVec 32 := 96#32
  let c0_i32_117 : BitVec 32 := 0#32
  ![v196.toNat, v206.toNat, 96, 0]
def k0_off5 (i : grid0.Coords) (c0_i32_148 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v253 : BitVec 32 := Scalar.addi v2 c0_i32_148
  let c0_i32_150 : BitVec 32 := 0#32
  let v255 : BitVec 1 := Scalar.cmpi .sgt v253 c0_i32_150
  let v256 : BitVec 32 := Scalar.extui v255
  let c0_i32_151 : BitVec 32 := 0#32
  let v257 : BitVec 1 := Scalar.cmpi .slt v253 c0_i32_151
  let v258 : BitVec 32 := Scalar.extui v257
  let v259 : BitVec 32 := Scalar.subi v256 v258
  let c32_i32_149 : BitVec 32 := 32#32
  let c0_i32_152 : BitVec 32 := 0#32
  let v260 : BitVec 1 := Scalar.cmpi .sgt c32_i32_149 c0_i32_152
  let v261 : BitVec 32 := Scalar.extui v260
  let c0_i32_153 : BitVec 32 := 0#32
  let v262 : BitVec 1 := Scalar.cmpi .slt c32_i32_149 c0_i32_153
  let v263 : BitVec 32 := Scalar.extui v262
  let v264 : BitVec 32 := Scalar.subi v261 v263
  let v265 : BitVec 1 := Scalar.cmpi .ne v259 v264
  let v266 : BitVec 32 := Scalar.remsi v253 c32_i32_149
  let c0_i32_154 : BitVec 32 := 0#32
  let v267 : BitVec 1 := Scalar.cmpi .ne v266 c0_i32_154
  let v268 : BitVec 1 := Scalar.andi v265 v267
  let v254 : BitVec 32 := Scalar.divsi v253 c32_i32_149
  let c1_i32_155 : BitVec 32 := 1#32
  let v269 : BitVec 32 := Scalar.subi v254 c1_i32_155
  let v270 : BitVec 32 := Scalar.select v268 v269 v254
  let c32_i32_156 : BitVec 32 := 32#32
  let c0_i32_157 : BitVec 32 := 0#32
  let v271 : BitVec 1 := Scalar.cmpi .eq c32_i32_156 c0_i32_157
  let c1_i32_158 : BitVec 32 := 1#32
  let v272 : BitVec 32 := Scalar.select v271 c1_i32_158 c32_i32_156
  let v273 : BitVec 32 := Scalar.remsi v253 v272
  let c0_i32_160 : BitVec 32 := 0#32
  let v275 : BitVec 1 := Scalar.cmpi .slt v273 c0_i32_160
  let c0_i32_161 : BitVec 32 := 0#32
  let v276 : BitVec 1 := Scalar.cmpi .slt v272 c0_i32_161
  let v277 : BitVec 1 := Scalar.xori v275 v276
  let c0_i32_159 : BitVec 32 := 0#32
  let v274 : BitVec 1 := Scalar.cmpi .ne v273 c0_i32_159
  let v278 : BitVec 1 := Scalar.andi v277 v274
  let v279 : BitVec 32 := Scalar.addi v273 v272
  let v280 : BitVec 32 := Scalar.select v278 v279 v273
  let c192_i32 : BitVec 32 := 192#32
  let c0_i32_162 : BitVec 32 := 0#32
  ![v270.toNat, v280.toNat, 192, 0]
def k0_off6 (i : grid0.Coords) (c0_i32_193 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v327 : BitVec 32 := Scalar.addi v2 c0_i32_193
  let c0_i32_195 : BitVec 32 := 0#32
  let v329 : BitVec 1 := Scalar.cmpi .sgt v327 c0_i32_195
  let v330 : BitVec 32 := Scalar.extui v329
  let c0_i32_196 : BitVec 32 := 0#32
  let v331 : BitVec 1 := Scalar.cmpi .slt v327 c0_i32_196
  let v332 : BitVec 32 := Scalar.extui v331
  let v333 : BitVec 32 := Scalar.subi v330 v332
  let c32_i32_194 : BitVec 32 := 32#32
  let c0_i32_197 : BitVec 32 := 0#32
  let v334 : BitVec 1 := Scalar.cmpi .sgt c32_i32_194 c0_i32_197
  let v335 : BitVec 32 := Scalar.extui v334
  let c0_i32_198 : BitVec 32 := 0#32
  let v336 : BitVec 1 := Scalar.cmpi .slt c32_i32_194 c0_i32_198
  let v337 : BitVec 32 := Scalar.extui v336
  let v338 : BitVec 32 := Scalar.subi v335 v337
  let v339 : BitVec 1 := Scalar.cmpi .ne v333 v338
  let v340 : BitVec 32 := Scalar.remsi v327 c32_i32_194
  let c0_i32_199 : BitVec 32 := 0#32
  let v341 : BitVec 1 := Scalar.cmpi .ne v340 c0_i32_199
  let v342 : BitVec 1 := Scalar.andi v339 v341
  let v328 : BitVec 32 := Scalar.divsi v327 c32_i32_194
  let c1_i32_200 : BitVec 32 := 1#32
  let v343 : BitVec 32 := Scalar.subi v328 c1_i32_200
  let v344 : BitVec 32 := Scalar.select v342 v343 v328
  let c32_i32_201 : BitVec 32 := 32#32
  let c0_i32_202 : BitVec 32 := 0#32
  let v345 : BitVec 1 := Scalar.cmpi .eq c32_i32_201 c0_i32_202
  let c1_i32_203 : BitVec 32 := 1#32
  let v346 : BitVec 32 := Scalar.select v345 c1_i32_203 c32_i32_201
  let v347 : BitVec 32 := Scalar.remsi v327 v346
  let c0_i32_205 : BitVec 32 := 0#32
  let v349 : BitVec 1 := Scalar.cmpi .slt v347 c0_i32_205
  let c0_i32_206 : BitVec 32 := 0#32
  let v350 : BitVec 1 := Scalar.cmpi .slt v346 c0_i32_206
  let v351 : BitVec 1 := Scalar.xori v349 v350
  let c0_i32_204 : BitVec 32 := 0#32
  let v348 : BitVec 1 := Scalar.cmpi .ne v347 c0_i32_204
  let v352 : BitVec 1 := Scalar.andi v351 v348
  let v353 : BitVec 32 := Scalar.addi v347 v346
  let v354 : BitVec 32 := Scalar.select v352 v353 v347
  let c288_i32 : BitVec 32 := 288#32
  let c0_i32_207 : BitVec 32 := 0#32
  ![v344.toNat, v354.toNat, 288, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x64x196x192 : Shape := ⟨4, ![8, 64, 196, 192]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S8x32x196x192 : Shape := ⟨4, ![8, 32, 196, 192]⟩
abbrev S8x32x196x384 : Shape := ⟨4, ![8, 32, 196, 384]⟩

abbrev nBuf : Space → Nat
  | .hbm => 62
  | .vmem => 0
  | .smem => 0
  | _ => 0

abbrev bufTy : (tb : Table) → Fin (tcTables nBuf tb) → BufTy
  | .hbm, ⟨0, _⟩ => ⟨S8x64x196x192, .f32⟩
  | .hbm, ⟨1, _⟩ => ⟨S32, .i32⟩
  | .hbm, ⟨2, _⟩ => ⟨S_, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S1, .i32⟩
  | .hbm, ⟨17, _⟩ => ⟨S_, .i32⟩
  | .hbm, ⟨18, _⟩ => ⟨S32x1, .i32⟩
  | .hbm, ⟨19, _⟩ => ⟨S32x1, .i1⟩
  | .hbm, ⟨20, _⟩ => ⟨S1x1, .i32⟩
  | .hbm, ⟨21, _⟩ => ⟨S32x1, .i32⟩
  | .hbm, ⟨22, _⟩ => ⟨S32x1, .i1⟩
  | .hbm, ⟨23, _⟩ => ⟨S32x1, .i1⟩
  | .hbm, ⟨24, _⟩ => ⟨S_, .i1⟩
  | .hbm, ⟨25, _⟩ => ⟨S32, .i1⟩
  | .hbm, ⟨26, _⟩ => ⟨S8x32x196x192, .f32⟩
  | .hbm, ⟨27, _⟩ => ⟨S8x32x196x192, .i1⟩
  | .hbm, ⟨28, _⟩ => ⟨S_, .f32⟩
  | .hbm, ⟨29, _⟩ => ⟨S8x32x196x192, .f32⟩
  | .hbm, ⟨30, _⟩ => ⟨S8x32x196x192, .f32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S32x1, .i32⟩
  | .hbm, ⟨46, _⟩ => ⟨S1, .i32⟩
  | .hbm, ⟨47, _⟩ => ⟨S_, .i32⟩
  | .hbm, ⟨48, _⟩ => ⟨S32x1, .i32⟩
  | .hbm, ⟨49, _⟩ => ⟨S32x1, .i1⟩
  | .hbm, ⟨50, _⟩ => ⟨S1x1, .i32⟩
  | .hbm, ⟨51, _⟩ => ⟨S32x1, .i32⟩
  | .hbm, ⟨52, _⟩ => ⟨S32x1, .i1⟩
  | .hbm, ⟨53, _⟩ => ⟨S32x1, .i1⟩
  | .hbm, ⟨54, _⟩ => ⟨S_, .i1⟩
  | .hbm, ⟨55, _⟩ => ⟨S32, .i1⟩
  | .hbm, ⟨56, _⟩ => ⟨S8x32x196x192, .f32⟩
  | .hbm, ⟨57, _⟩ => ⟨S8x32x196x192, .i1⟩
  | .hbm, ⟨58, _⟩ => ⟨S_, .f32⟩
  | .hbm, ⟨59, _⟩ => ⟨S8x32x196x192, .f32⟩
  | .hbm, ⟨60, _⟩ => ⟨S8x32x196x192, .f32⟩
  | .hbm, ⟨61, _⟩ => ⟨S8x32x196x384, .f32⟩
  | _, _ => ⟨S8x64x196x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v11 : Ref sig .tc := ⟨.hbm, 60, rfl⟩
abbrev main_v12 : Ref sig .tc := ⟨.hbm, 61, rfl⟩

abbrev nD : Nat := 1
abbrev τ : Topo := Topo.v7x

variable {F : FTy → Type} [FloatOps F]
-- ==== Proof.Kernel.Ring.lean ====
/- The body of the SparseCore kernel as a ring of four buffers. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Kernel.Ring

open Cert.Kernel Cert.Kernel.Gen
open Idealize.ShloMosaic Idealize.SL.Sem

variable {F : FTy → Type} [FloatOps F]

/-- The buffer of slot `s`. -/
abbrev buf : Fin 4 → Memref sig .scVector .vmem S96x196 .f32
  | 0 => Memref.whole cc0_scratch0
  | 1 => Memref.whole cc0_scratch1
  | 2 => Memref.whole cc0_scratch2
  | 3 => Memref.whole cc0_scratch3

theorem buf_whole : ∀ s, (buf s).IsWhole
  | 0 => Memref.isWhole_whole _
  | 1 => Memref.isWhole_whole _
  | 2 => Memref.isWhole_whole _
  | 3 => Memref.isWhole_whole _

/-- The semaphore of the reads into slot `s`, and of the writes out of it. -/
abbrev isem : Fin 4 → DmaSem sig
  | 0 => cc0_scratch4.sem
  | 1 => cc0_scratch5.sem
  | 2 => cc0_scratch6.sem
  | 3 => cc0_scratch7.sem
abbrev osem : Fin 4 → DmaSem sig
  | 0 => cc0_scratch8.sem
  | 1 => cc0_scratch9.sem
  | 2 => cc0_scratch10.sem
  | 3 => cc0_scratch11.sem

/-- Where slot `s`'s part of round `q` begins, in the input and in the output. -/
def srcOff (i : grid0.Coords) (q : Fin 8) : Fin 4 → Fin 4 → ℕ
  | 0 => k0_off1 i (BitVec.ofNat 32 q.val) 0#32
  | 1 => k0_off2 i (BitVec.ofNat 32 q.val) 0#32
  | 2 => k0_off1 i (BitVec.ofNat 32 q.val) 1#32
  | 3 => k0_off2 i (BitVec.ofNat 32 q.val) 1#32
def dstOff (i : grid0.Coords) (q : Fin 8) : Fin 4 → Fin 4 → ℕ
  | 0 => k0_off3 i (BitVec.ofNat 32 q.val)
  | 1 => k0_off4 i (BitVec.ofNat 32 q.val)
  | 2 => k0_off5 i (BitVec.ofNat 32 q.val)
  | 3 => k0_off6 i (BitVec.ofNat 32 q.val)

theorem srcOff_inb (i : grid0.Coords) (q : Fin 8) : ∀ s a, srcOff i q s a + S1x1x96x196.size a ≤ S8x64x192x196.size a
  | 0 => k0_off1_inb i q 0
  | 1 => k0_off2_inb i q 0
  | 2 => k0_off1_inb i q 1
  | 3 => k0_off2_inb i q 1
theorem dstOff_inb (i : grid0.Coords) (q : Fin 8) : ∀ s a, dstOff i q s a + S1x1x96x196.size a ≤ S8x32x384x196.size a
  | 0 => k0_off3_inb i q
  | 1 => k0_off4_inb i q
  | 2 => k0_off5_inb i q
  | 3 => k0_off6_inb i q

/-- The part of the input that goes through slot `s` in round `q`, and the part of the output it is written to. -/
abbrev src (i : grid0.Coords) (q : Fin 8) (s : Fin 4) : Memref sig .scVector .hbm S96x196 .f32 :=
  ((Memref.whole main_v0_scv : Memref sig .scVector .hbm S8x64x192x196 .f32).slice
    (Rect.unit (s := S8x64x192x196) (srcOff i q s) S1x1x96x196.size (srcOff_inb i q s)) (fun _ => rfl)).squeeze S96x196 squeezes_S1x1x96x196_S96x196
abbrev dst (i : grid0.Coords) (q : Fin 8) (s : Fin 4) : Memref sig .scVector .hbm S96x196 .f32 :=
  ((Memref.whole main_v1_scv : Memref sig .scVector .hbm S8x32x384x196 .f32).slice
    (Rect.unit (s := S8x32x384x196) (dstOff i q s) S1x1x96x196.size (dstOff_inb i q s)) (fun _ => rfl)).squeeze S96x196 squeezes_S1x1x96x196_S96x196

theorem src_wordExact (i : grid0.Coords) (q : Fin 8) (s : Fin 4) : (src i q s).view.WordExact := (View.wordExact_bits rfl).reshape _ _
theorem dst_wordExact (i : grid0.Coords) (q : Fin 8) (s : Fin 4) : (dst i q s).view.WordExact := (View.wordExact_bits rfl).reshape _ _

abbrev TProg (i : grid0.Coords) : Type 1 :=
  Prog (TpuEff nD τ sig (Elt F) Λ₀ (.scVector ((i 0).castLE hcore0) ((i 1).castLE hsub0))) PUnit

/-- Start the read of slot `s`'s part of round `q`; wait for it; start its write; wait for that. -/
def issueIn (i : grid0.Coords) (q : Fin 8) (s : Fin 4) : TProg (F := F) i :=
  Prog.lift (.enqueueDma (src i q s) (.here (buf s)) (.dma (isem s)) (src_wordExact i q s) (buf_whole s).wordExact ⟨Or.inl rfl, trivial⟩)
def waitIn (i : grid0.Coords) (q : Fin 8) (s : Fin 4) : TProg (F := F) i :=
  Prog.lift (.waitDma2 (isem s) (src i q s) (buf s) (src_wordExact i q s) (buf_whole s).wordExact)
def issueOut (i : grid0.Coords) (q : Fin 8) (s : Fin 4) : TProg (F := F) i :=
  Prog.lift (.enqueueDma (buf s) (.here (dst i q s)) (.dma (osem s)) (buf_whole s).wordExact (dst_wordExact i q s) ⟨Or.inl rfl, trivial⟩)
def waitOut (i : grid0.Coords) (q : Fin 8) (s : Fin 4) : TProg (F := F) i :=
  Prog.lift (.waitDma2 (osem s) (buf s) (dst i q s) (buf_whole s).wordExact (dst_wordExact i q s))

/-- The first round: no slot has a write in flight before. -/
def first (i : grid0.Coords) : TProg (F := F) i := do
  issueIn i 0 0
  issueIn i 0 1
  waitIn i 0 0
  issueIn i 0 2
  issueOut i 0 0
  waitIn i 0 1
  issueIn i 0 3
  issueOut i 0 1
  waitIn i 0 2
  waitOut i 0 0
  issueIn i 1 0
  issueOut i 0 2
  waitIn i 0 3
  waitOut i 0 1
  issueIn i 1 1
  issueOut i 0 3

/-- Round `q` between rounds `p` and `n`. -/
def mid (i : grid0.Coords) (p q n : Fin 8) : TProg (F := F) i := do
  waitIn i q 0
  waitOut i p 2
  issueIn i q 2
  issueOut i q 0
  waitIn i q 1
  waitOut i p 3
  issueIn i q 3
  issueOut i q 1
  waitIn i q 2
  waitOut i q 0
  issueIn i n 0
  issueOut i q 2
  waitIn i q 3
  waitOut i q 1
  issueIn i n 1
  issueOut i q 3

/-- The last round, which reads nothing ahead, and the waits for the writes still in flight. -/
def last (i : grid0.Coords) : TProg (F := F) i := do
  waitIn i 7 0
  waitOut i 6 2
  issueIn i 7 2
  issueOut i 7 0
  waitIn i 7 1
  waitOut i 6 3
  issueIn i 7 3
  issueOut i 7 1
  waitIn i 7 2
  issueOut i 7 2
  waitIn i 7 3
  issueOut i 7 3
  waitOut i 7 0
  waitOut i 7 1
  waitOut i 7 2
  waitOut i 7 3

/-- The whole body. -/
def ring (i : grid0.Coords) : TProg (F := F) i := do
  first i
  mid i 0 1 2
  mid i 1 2 3
  mid i 2 3 4
  mid i 3 4 5
  mid i 4 5 6
  mid i 5 6 7
  last i

set_option maxRecDepth 100000 in
/-- The printed body is the ring. -/
theorem body_eq_ring (i : grid0.Coords) :
    cc0_merge (F := F) i (Memref.whole main_v0_scv) (Memref.isWhole_whole _) (Memref.whole main_v1_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11
    = ring i := by
  rw [cc0_merge_eq_skeleton]
  rfl

end Cert.Kernel.Ring
end
-- ==== Proof.Kernel.Geometry.lean ====
/- Where the parts of a round lie in the two arrays, and what the kernel makes of its input. -/
module

public import proofs.«01_k».proof.Proof.Kernel.Ring

@[expose] public section

noncomputable section

namespace Cert.Kernel.Ring

open Cert.Kernel Cert.Kernel.Gen
open Idealize.ShloMosaic Idealize.SL.Sem

/-- The task of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a
  match a with
  | 0 => rfl
  | 1 => rfl

/-- The number of the pair of frames that round `q` of task `i` merges, among the 256 of the batch. -/
abbrev pair (i : grid0.Coords) (q : Fin 8) : ℕ := 16 * (i 1).val + 8 * (i 0).val + q.val

theorem off1_eq (i : grid0.Coords) (q : Fin 8) (t : Fin 2) :
    k0_off1 i (BitVec.ofNat 32 q.val) (BitVec.ofNat 32 t.val) = ![pair i q / 32, 2 * (pair i q % 32) + t.val, 0, 0] := by
  rw [← coordsV_eta i]; generalize i 0 = c, i 1 = s
  revert c s q t; decide +kernel
theorem off2_eq (i : grid0.Coords) (q : Fin 8) (t : Fin 2) :
    k0_off2 i (BitVec.ofNat 32 q.val) (BitVec.ofNat 32 t.val) = ![pair i q / 32, 2 * (pair i q % 32) + t.val, 96, 0] := by
  rw [← coordsV_eta i]; generalize i 0 = c, i 1 = s
  revert c s q t; decide +kernel
theorem off3_eq (i : grid0.Coords) (q : Fin 8) :
    k0_off3 i (BitVec.ofNat 32 q.val) = ![pair i q / 32, pair i q % 32, 0, 0] := by
  rw [← coordsV_eta i]; generalize i 0 = c, i 1 = s
  revert c s q; decide +kernel
theorem off4_eq (i : grid0.Coords) (q : Fin 8) :
    k0_off4 i (BitVec.ofNat 32 q.val) = ![pair i q / 32, pair i q % 32, 96, 0] := by
  rw [← coordsV_eta i]; generalize i 0 = c, i 1 = s
  revert c s q; decide +kernel
theorem off5_eq (i : grid0.Coords) (q : Fin 8) :
    k0_off5 i (BitVec.ofNat 32 q.val) = ![pair i q / 32, pair i q % 32, 192, 0] := by
  rw [← coordsV_eta i]; generalize i 0 = c, i 1 = s
  revert c s q; decide +kernel
theorem off6_eq (i : grid0.Coords) (q : Fin 8) :
    k0_off6 i (BitVec.ofNat 32 q.val) = ![pair i q / 32, pair i q % 32, 288, 0] := by
  rw [← coordsV_eta i]; generalize i 0 = c, i 1 = s
  revert c s q; decide +kernel

/-- A part of the input: its pair's batch, frame, and rows; slot `s` holds half `s % 2` of frame `s / 2`. -/
theorem srcOff_eq (i : grid0.Coords) (q : Fin 8) (s : Fin 4) :
    srcOff i q s = ![pair i q / 32, 2 * (pair i q % 32) + s.val / 2, 96 * (s.val % 2), 0] := by
  match s with
  | 0 => exact off1_eq i q 0
  | 1 => exact off2_eq i q 0
  | 2 => exact off1_eq i q 1
  | 3 => exact off2_eq i q 1
/-- A part of the output. -/
theorem dstOff_eq (i : grid0.Coords) (q : Fin 8) (s : Fin 4) :
    dstOff i q s = ![pair i q / 32, pair i q % 32, 96 * s.val, 0] := by
  match s with
  | 0 => exact off3_eq i q
  | 1 => exact off4_eq i q
  | 2 => exact off5_eq i q
  | 3 => exact off6_eq i q

/-- An index of a slot's buffer as an index of the part's own rectangle, which has two more axes of extent one. -/
abbrev unsq (y : S96x196.Idx) : S1x1x96x196.Idx := Shape.reshapeEquiv squeezes_S1x1x96x196_S96x196.numel_eq y

theorem src_emb_val (i : grid0.Coords) (q : Fin 8) (s : Fin 4) (y : S96x196.Idx) (a : Fin 4) :
    (((src i q s).view.emb y : S8x64x192x196.Idx) a).val = srcOff i q s a + (unsq y a).val :=
  congrArg (srcOff i q s a + ·) (Nat.one_mul (unsq y a).val)
theorem dst_emb_val (i : grid0.Coords) (q : Fin 8) (s : Fin 4) (y : S96x196.Idx) (a : Fin 4) :
    (((dst i q s).view.emb y : S8x32x384x196.Idx) a).val = dstOff i q s a + (unsq y a).val :=
  congrArg (dstOff i q s a + ·) (Nat.one_mul (unsq y a).val)

/-- The elements of the input and of the output that slot `s` holds in round `q` of task `i`. -/
abbrev srcSet (i : grid0.Coords) (q : Fin 8) (s : Fin 4) : Finset S8x64x192x196.Idx := (src i q s).view.set
abbrev dstSet (i : grid0.Coords) (q : Fin 8) (s : Fin 4) : Finset S8x32x384x196.Idx := (dst i q s).view.set

theorem srcSet_eq (i : grid0.Coords) (q : Fin 8) (s : Fin 4) :
    srcSet i q s = (Rect.unit (s := S8x64x192x196) (srcOff i q s) S1x1x96x196.size (srcOff_inb i q s)).set :=
  (View.set_reshape _ _).trans (View.set_slice_whole main_v0_scv (Rect.unit (s := S8x64x192x196) (srcOff i q s) S1x1x96x196.size (srcOff_inb i q s)))
theorem mem_srcSet {i : grid0.Coords} {q : Fin 8} {s : Fin 4} {x : S8x64x192x196.Idx} :
    x ∈ srcSet i q s ↔ (x 0).val = pair i q / 32 ∧ (x 1).val = 2 * (pair i q % 32) + s.val / 2 ∧ (x 2).val / 96 = s.val % 2 := by
  have h : x ∈ srcSet i q s ↔ ∀ a : Fin 4, srcOff i q s a ≤ (x a).val ∧ (x a).val < srcOff i q s a + S1x1x96x196.size a := by
    rw [srcSet_eq]; exact Rect.mem_set_unit
  have h3 : (x 3).val < 196 := (x 3).isLt
  rw [h, Fin.forall_fin_succ, Fin.forall_fin_succ, Fin.forall_fin_succ, Fin.forall_fin_one]
  simp [srcOff_eq, S1x1x96x196]
  omega

theorem dstSet_eq (i : grid0.Coords) (q : Fin 8) (s : Fin 4) :
    dstSet i q s = (Rect.unit (s := S8x32x384x196) (dstOff i q s) S1x1x96x196.size (dstOff_inb i q s)).set :=
  (View.set_reshape _ _).trans (View.set_slice_whole main_v1_scv (Rect.unit (s := S8x32x384x196) (dstOff i q s) S1x1x96x196.size (dstOff_inb i q s)))
theorem mem_dstSet {i : grid0.Coords} {q : Fin 8} {s : Fin 4} {x : S8x32x384x196.Idx} :
    x ∈ dstSet i q s ↔ (x 0).val = pair i q / 32 ∧ (x 1).val = pair i q % 32 ∧ (x 2).val / 96 = s.val := by
  have h : x ∈ dstSet i q s ↔ ∀ a : Fin 4, dstOff i q s a ≤ (x a).val ∧ (x a).val < dstOff i q s a + S1x1x96x196.size a := by
    rw [dstSet_eq]; exact Rect.mem_set_unit
  have h3 : (x 3).val < 196 := (x 3).isLt
  rw [h, Fin.forall_fin_succ, Fin.forall_fin_succ, Fin.forall_fin_succ, Fin.forall_fin_one]
  simp [dstOff_eq, S1x1x96x196]
  omega

/-! ## The parts, of all tasks, tile both arrays -/

/-- A part: the SparseCore, the subcore, the round and the slot. -/
abbrev Part : Type := Fin 2 × Fin 16 × Fin 8 × Fin 4
abbrev partSrc (t : Part) : Finset S8x64x192x196.Idx := srcSet (coordsV t.1 t.2.1) t.2.2.1 t.2.2.2
abbrev partDst (t : Part) : Finset S8x32x384x196.Idx := dstSet (coordsV t.1 t.2.1) t.2.2.1 t.2.2.2

theorem pair_coordsV (c : Fin 2) (j : Fin 16) (q : Fin 8) : pair (coordsV c j) q = 16 * j.val + 8 * c.val + q.val := rfl

theorem part_ext {t u : Part} (hp : 16 * t.2.1.val + 8 * t.1.val + t.2.2.1.val = 16 * u.2.1.val + 8 * u.1.val + u.2.2.1.val)
    (hs : t.2.2.2.val = u.2.2.2.val) : t = u := by
  obtain ⟨c, j, q, s⟩ := t; obtain ⟨c', j', q', s'⟩ := u
  simp only [Prod.mk.injEq, Fin.ext_iff] at *
  omega

theorem src_disjoint : ∀ t ∈ (Finset.univ : Finset Part), ∀ u ∈ (Finset.univ : Finset Part), t ≠ u → Disjoint (partSrc t) (partSrc u) := by
  intro t _ u _ h
  refine Finset.disjoint_left.mpr fun x ht hu => h (part_ext ?_ ?_) <;>
    (rw [mem_srcSet, pair_coordsV] at ht hu; omega)

theorem dst_disjoint : ∀ t ∈ (Finset.univ : Finset Part), ∀ u ∈ (Finset.univ : Finset Part), t ≠ u → Disjoint (partDst t) (partDst u) := by
  intro t _ u _ h
  refine Finset.disjoint_left.mpr fun x ht hu => h (part_ext ?_ ?_) <;>
    (rw [mem_dstSet, pair_coordsV] at ht hu; omega)

set_option maxRecDepth 16384 in
theorem src_cover : (Finset.univ : Finset Part).biUnion partSrc = Finset.univ := by
  refine Finset.eq_univ_iff_forall.mpr fun x => ?_
  suffices h : ∃ t : Part, x ∈ partSrc t by
    obtain ⟨t, ht⟩ := h
    exact Finset.mem_biUnion.mpr ⟨t, Finset.mem_univ t, ht⟩
  have h0 : (x 0).val < 8 := (x 0).isLt
  have h1 : (x 1).val < 64 := (x 1).isLt
  have h2 : (x 2).val < 192 := (x 2).isLt
  refine ⟨(⟨((x 0).val * 4 + (x 1).val / 16) % 2, by omega⟩, ⟨((x 0).val * 4 + (x 1).val / 16) / 2, by omega⟩, ⟨(x 1).val / 2 % 8, by omega⟩,
    ⟨2 * ((x 1).val % 2) + (x 2).val / 96, by omega⟩), ?_⟩
  rw [mem_srcSet, pair_coordsV]; dsimp only; omega

set_option maxRecDepth 16384 in
theorem dst_cover : (Finset.univ : Finset Part).biUnion partDst = Finset.univ := by
  refine Finset.eq_univ_iff_forall.mpr fun x => ?_
  suffices h : ∃ t : Part, x ∈ partDst t by
    obtain ⟨t, ht⟩ := h
    exact Finset.mem_biUnion.mpr ⟨t, Finset.mem_univ t, ht⟩
  have h0 : (x 0).val < 8 := (x 0).isLt
  have h1 : (x 1).val < 32 := (x 1).isLt
  have h2 : (x 2).val < 384 := (x 2).isLt
  refine ⟨(⟨((x 0).val * 4 + (x 1).val / 8) % 2, by omega⟩, ⟨((x 0).val * 4 + (x 1).val / 8) / 2, by omega⟩, ⟨(x 1).val % 8, by omega⟩,
    ⟨(x 2).val / 96, by omega⟩), ?_⟩
  rw [mem_dstSet, pair_coordsV]; dsimp only; omega

/-! ## The value -/

/-- Where an element of the output comes from: row `e` of pair `g` is row `e % 192` of frame `2 g + e / 192`. -/
def inIdx (x : S8x32x384x196.Idx) : S8x64x192x196.Idx :=
  have h1 : (x 1).val < 32 := (x 1).isLt
  have h2 : (x 2).val < 384 := (x 2).isLt
  fun | 0 => x 0 | 1 => (⟨2 * (x 1).val + (x 2).val / 192, by omega⟩ : Fin 64) | 2 => (⟨(x 2).val % 192, by omega⟩ : Fin 192) | 3 => x 3
      | ⟨_ + 4, h⟩ => absurd h (Nat.not_lt.2 (Nat.le_add_left _ _))

/-- The frames of `f` merged in pairs. -/
def merged {T : Type} (f : S8x64x192x196.Idx → T) : S8x32x384x196.Idx → T := fun x => f (inIdx x)

/-- A part of the output comes from the part of the input that goes through the same slot. -/
theorem inIdx_dst (i : grid0.Coords) (q : Fin 8) (s : Fin 4) (y : S96x196.Idx) :
    inIdx ((dst i q s).view.emb y) = (src i q s).view.emb y := by
  have z0 : (unsq y 0).val < 1 := (unsq y 0).isLt
  have z1 : (unsq y 1).val < 1 := (unsq y 1).isLt
  have z2 : (unsq y 2).val < 96 := (unsq y 2).isLt
  have d0 := dst_emb_val i q s y 0
  have d1 := dst_emb_val i q s y 1
  have d2 := dst_emb_val i q s y 2
  have d3 := dst_emb_val i q s y 3
  have hs := s.isLt
  simp only [dstOff_eq, Matrix.cons_val] at d0 d1 d2 d3
  funext a; apply Fin.ext
  refine Eq.trans ?_ (src_emb_val i q s y a).symm
  match a with
  | 0 =>
    rw [srcOff_eq]; exact d0
  | 1 =>
    show 2 * _ + _ / 192 = srcOff i q s 1 + _
    simp only [srcOff_eq, Matrix.cons_val]; omega
  | 2 =>
    show _ % 192 = srcOff i q s 2 + _
    simp only [srcOff_eq, Matrix.cons_val]; omega
  | 3 =>
    rw [srcOff_eq]; exact d3

end Cert.Kernel.Ring
end
-- ==== Proof.Kernel.Steps.lean ====
/- The four steps of the ring — start a read, wait for it, start a write, wait for it — as what each takes and gives. -/
module

public import proofs.«01_k».proof.Proof.Kernel.Geometry
public import Idealize.ShloMosaic.Lib.SparseCore.Ops

@[expose] public section

noncomputable section

namespace Cert.Kernel.Ring

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds and the transfers' counters. -/
abbrev UH : Type := URounds (GSem nD τ sig) ℕ
abbrev UU : Type := UH × Counters

local notation "𝕄" => MT nD τ sig (HIx 1) (Elt F) ℕ UU ℕ

abbrev xLoc (d : Dev nD) : Loc nD τ sig := (SparseCore.T d).loc main_v0
abbrev oLoc (d : Dev nD) : Loc nD τ sig := (SparseCore.T d).loc main_v1

/-- The subcore that runs task `L`. -/
abbrev thrV (d : Dev nD) (L : grid0.Coords) : Thread nD τ := V d ((L 0).castLE hcore0) ((L 1).castLE hsub0)

variable [FloatOps F] (d : Dev nD) (L : grid0.Coords) (xt : S8x64x192x196.Idx → Elt F .f32) (f₀ : S8x32x384x196.Idx → Elt F .f32)

/-- A part of the input, at `xt`; a part of the output, at `f`. -/
def srcPts (q : Fin 8) (s : Fin 4) : sProp 𝕄 := (xLoc d ↦[srcSet L q s]{fullShare} (xt : Buf (Elt F) (xLoc d)))
def dstPts (f : S8x32x384x196.Idx → Elt F .f32) (q : Fin 8) (s : Fin 4) : sProp 𝕄 := (oLoc d ↦[dstSet L q s]{fullShare} (f : Buf (Elt F) (oLoc d)))

abbrev icell (s : Fin 4) : GSem nD τ sig := (thrV d L, .dma (isem s))
abbrev ocell (s : Fin 4) : GSem nD τ sig := (thrV d L, .dma (osem s))

/-- Slot `s`'s buffer at some contents; at the part of the input that goes through it in round `q`. -/
def bufAny (s : Fin 4) : sProp 𝕄 := iprop(∃ f, (buf s).view.loc (thrV d L) ↦{fullShare} f)
def bufAt (q : Fin 8) (s : Fin 4) : sProp 𝕄 :=
  iprop(∃ f, ⌜(buf s).view.read (Elt F) f = (src L q s).view.read (Elt F) (xt : Buf (Elt F) (xLoc d))⌝ ∗ (buf s).view.loc (thrV d L) ↦{fullShare} f)

/-- A slot with nothing in flight; with a read in flight; holding what it read; with a write in flight. -/
def Free (s : Fin 4) : sProp 𝕄 := iprop(bufAny d L s ∗ semVal (icell d L s) 0 ∗ semVal (ocell d L s) 0)
def Reading (q : Fin 8) (s : Fin 4) : sProp 𝕄 :=
  iprop(Transfers.Flight countersEmb (thrV d L) (.dma (isem s)) (default : HIx 1) ((buf s).view.amount (.dma (isem s))) (bufAt d L xt q s) ∗ semVal (ocell d L s) 0)
def Full (q : Fin 8) (s : Fin 4) : sProp 𝕄 := iprop(bufAt d L xt q s ∗ semVal (icell d L s) 0 ∗ semVal (ocell d L s) 0)
def Writing (q : Fin 8) (s : Fin 4) : sProp 𝕄 :=
  iprop(Transfers.Flight countersEmb (thrV d L) (.dma (osem s)) (default : HIx 1) ((dst L q s).view.amount (.dma (osem s)))
      iprop(dstPts d L (merged xt) q s ∗ bufAny d L s) ∗ semVal (icell d L s) 0)

/-- What the task owes throughout, `O`, with the waits recorded beyond `W` all its own transfers', and that `O` lets it wait for those. -/
def Owes (O : CellTallies nD τ sig (HIx 1)) (W : Waits sig (HIx 1)) : sProp 𝕄 :=
  iprop(Transfers.MayWaits (thrV d L) (default : HIx 1) O ∗ ∃ W', ⌜∀ p ∈ W', p ∈ W ∨ p.2 = none⌝ ∗ owes (thrV d L) O W')

theorem buf_set (s : Fin 4) : (buf s).view.set = Finset.univ := by
  match s with
  | 0 => exact View.set_whole _
  | 1 => exact View.set_whole _
  | 2 => exact View.set_whole _
  | 3 => exact View.set_whole _

/-- What a slot read, written to the output's part, is the merged input there. -/
theorem write_dst (q : Fin 8) (s : Fin 4) (x : S8x32x384x196.Idx) (hx : x ∈ dstSet L q s) :
    (dst L q s).view.write (Elt F) (f₀ : Buf (Elt F) (oLoc d)) ((src L q s).view.read (Elt F) (xt : Buf (Elt F) (xLoc d))) Finset.univ x = merged xt x := by
  obtain ⟨y, -, rfl⟩ := Finset.mem_map.mp hx
  rw [View.write_emb_of_mem _ _ (Finset.mem_univ y), View.read_apply]
  exact ((cast_cast _ _ _).trans (cast_eq _ _)).trans (congrArg xt (inIdx_dst L q s y)).symm

/-- The weakest precondition of a task's program. -/
abbrev wpT (p : TProg (F := F) L) (Q : PUnit → sProp 𝕄) : sProp 𝕄 := wp frame (wpE (defs₀ (F := F)) 𝒱₀ (thrV d L) none) Set.univ p Q

theorem wp_issueIn (q : Fin 8) (s : Fin 4) {k : PUnit → TProg (F := F) L} {Q : PUnit → sProp 𝕄} :
    iprop(Free d L s ∗ srcPts d L xt q s) ⊢ iprop((Reading d L xt q s -∗ wpT d L (k ⟨⟩) Q) -∗ wpT d L (issueIn L q s >>= k) Q) := by
  unfold Free Reading srcPts bufAny
  iintro ⟨⟨⟨%f, Hb⟩, Hi, Ho⟩, Hx⟩ Hk
  iapply (Transfers.wp_dmaLocal countersEmb 𝒱₀ (thrV d L) none (src := src L q s) (dst := buf s) (default : HIx 1) _ rfl
    (View.amount_pos _ _ (by decide)) (Finset.subset_univ _)) $$ [Hb Hi Hx]
  · isplitl [Hx]; · iexact Hx
    isplitl [Hb]; · iexact Hb
    iexact Hi
  iintro Hfl
  iapply Hk
  isplitl [Hfl]
  · iapply (Transfers.Flight_mono countersEmb (thrV d L) ?_) $$ Hfl
    unfold bufAt
    iintro ⟨Hb, -⟩
    iexists _
    isplitr
    swap; · iexact Hb
    ipureintro
    exact View.read_write_univ _ _
  · iexact Ho

theorem wp_waitIn (q : Fin 8) (s : Fin 4) {k : PUnit → TProg (F := F) L} {Q : PUnit → sProp 𝕄} (O : CellTallies nD τ sig (HIx 1)) (W : Waits sig (HIx 1)) :
    iprop(Reading d L xt q s ∗ Owes d L O W) ⊢ iprop((iprop(Full d L xt q s ∗ Owes d L O W) -∗ wpT d L (k ⟨⟩) Q) -∗ wpT d L (waitIn L q s >>= k) Q) := by
  unfold Reading Full Owes
  iintro ⟨⟨Hfl, Ho⟩, #Hmw, %W', %hW, HO⟩ Hk
  iapply (Transfers.wp_waitLocalO countersEmb 𝒱₀ (thrV d L) none (srcw := src L q s) (dstw := buf s) (default : HIx 1) rfl) $$ [Hfl HO]
  · isplitl [Hfl]; · iexact Hfl
    isplitl [HO]; · iexact HO
    iapply (Transfers.MayWaits.elim (SemLoc.dma (isem s))) $$ Hmw
  iintro ⟨Hb, Hi, HO⟩
  iapply Hk
  isplitl [Hb Hi Ho]
  · isplitl [Hb]; · iexact Hb
    isplitl [Hi] <;> iassumption
  isplitr; · iexact Hmw
  iexists _; isplitr
  swap; · iexact HO
  ipureintro; intro p hp
  rcases Finset.mem_insert.mp hp with hp | hp
  · exact .inr (hp ▸ rfl)
  · exact hW p hp

theorem wp_issueOut (q : Fin 8) (s : Fin 4) {k : PUnit → TProg (F := F) L} {Q : PUnit → sProp 𝕄} :
    iprop(Full d L xt q s ∗ dstPts d L f₀ q s) ⊢ iprop((Writing d L xt q s -∗ wpT d L (k ⟨⟩) Q) -∗ wpT d L (issueOut L q s >>= k) Q) := by
  unfold Full Writing bufAt dstPts
  iintro ⟨⟨⟨%f, %hf, Hb⟩, Hi, Ho⟩, Hd⟩ Hk
  ihave Hb' := (Entails.of_eq (show ((buf s).view.loc (thrV d L) ↦{fullShare} f : sProp 𝕄) = (buf s).view.loc (thrV d L) ↦[(buf s).view.set]{fullShare} f by rw [buf_set])) $$ Hb
  iapply (Transfers.wp_dmaLocal countersEmb 𝒱₀ (thrV d L) none (src := buf s) (dst := dst L q s) (default : HIx 1) _ rfl
    (View.amount_pos _ _ (by decide)) (Finset.Subset.refl _)) $$ [Hb' Hd Ho]
  · isplitl [Hb']; · iexact Hb'
    isplitl [Hd]; · iexact Hd
    iexact Ho
  iintro Hfl
  iapply Hk
  isplitl [Hfl]
  · iapply (Transfers.Flight_mono countersEmb (thrV d L) ?_) $$ Hfl
    iintro ⟨Hd, Hb⟩
    isplitl [Hd]
    · iapply (Entails.of_eq (pointsTo_congr (fun x hx => ?_))) $$ Hd
      have hv := write_dst L xt f₀ q s x hx
      rw [← hf] at hv
      exact hv
    · unfold bufAny
      iexists f
      iapply (Entails.of_eq (show ((buf s).view.loc (thrV d L) ↦[(buf s).view.set]{fullShare} f : sProp 𝕄) = (buf s).view.loc (thrV d L) ↦{fullShare} f by rw [buf_set])) $$ Hb
  · iexact Hi

theorem wp_waitOut (q : Fin 8) (s : Fin 4) {k : PUnit → TProg (F := F) L} {Q : PUnit → sProp 𝕄} (O : CellTallies nD τ sig (HIx 1)) (W : Waits sig (HIx 1)) :
    iprop(Writing d L xt q s ∗ Owes d L O W)
      ⊢ iprop((iprop(Free d L s ∗ dstPts d L (merged xt) q s ∗ Owes d L O W) -∗ wpT d L (k ⟨⟩) Q) -∗ wpT d L (waitOut L q s >>= k) Q) := by
  unfold Writing Free Owes
  iintro ⟨⟨Hfl, Hi⟩, #Hmw, %W', %hW, HO⟩ Hk
  iapply (Transfers.wp_waitLocalO countersEmb 𝒱₀ (thrV d L) none (srcw := buf s) (dstw := dst L q s) (default : HIx 1) rfl) $$ [Hfl HO]
  · isplitl [Hfl]; · iexact Hfl
    isplitl [HO]; · iexact HO
    iapply (Transfers.MayWaits.elim (SemLoc.dma (osem s))) $$ Hmw
  iintro ⟨⟨Hd, Hb⟩, Ho, HO⟩
  iapply Hk
  isplitl [Hb Hi Ho]
  · isplitl [Hb]; · iexact Hb
    isplitl [Hi] <;> iassumption
  isplitl [Hd]; · iexact Hd
  isplitr; · iexact Hmw
  iexists _; isplitr
  swap; · iexact HO
  ipureintro; intro p hp
  rcases Finset.mem_insert.mp hp with hp | hp
  · exact .inr (hp ▸ rfl)
  · exact hW p hp

end Cert.Kernel.Ring
end
-- ==== Proof.Kernel.Rounds.lean ====
/- A round of the ring, from its steps; the whole task, from its rounds. -/
module

public import proofs.«01_k».proof.Proof.Kernel.Steps

@[expose] public section

noncomputable section

namespace Cert.Kernel.Ring

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (xt : S8x64x192x196.Idx → Elt F .f32) (f₀ : S8x32x384x196.Idx → Elt F .f32)

/-- A part before the task: the input's, and the output's as it was. A round's four parts before and after. -/
def partPre (q : Fin 8) (s : Fin 4) : sProp 𝕄 := iprop(srcPts d L xt q s ∗ dstPts d L f₀ q s)
def roundPre (q : Fin 8) : sProp 𝕄 := bigSep Finset.univ fun s : Fin 4 => partPre d L xt f₀ q s
def roundDone (q : Fin 8) : sProp 𝕄 := bigSep Finset.univ fun s : Fin 4 => dstPts d L (merged xt) q s

omit [FloatOps F] in
theorem four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

omit [FloatOps F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Between round `p` and round `q`: two reads of `q` and the two last writes of `p` in flight. -/
def Between (O : CellTallies nD τ sig (HIx 1)) (W : Waits sig (HIx 1)) (p q : Fin 8) : sProp 𝕄 :=
  iprop(Owes d L O W ∗ Reading d L xt q 0 ∗ Reading d L xt q 1 ∗ dstPts d L f₀ q 0 ∗ dstPts d L f₀ q 1 ∗ partPre d L xt f₀ q 2 ∗ partPre d L xt f₀ q 3
    ∗ Writing d L xt p 2 ∗ Writing d L xt p 3 ∗ dstPts d L (merged xt) p 0 ∗ dstPts d L (merged xt) p 1)

variable (O : CellTallies nD τ sig (HIx 1)) (W : Waits sig (HIx 1))

theorem wp_first {k : PUnit → TProg (F := F) L} {Q : PUnit → sProp 𝕄} :
    iprop(Owes d L O W ∗ (Free d L 0 ∗ Free d L 1 ∗ Free d L 2 ∗ Free d L 3) ∗ roundPre d L xt f₀ 0 ∗ roundPre d L xt f₀ 1)
      ⊢ iprop((Between d L xt f₀ O W 0 1 -∗ wpT d L (k ⟨⟩) Q) -∗ wpT d L (first L >>= k) Q) := by
  unfold roundPre Between first
  rw [four, four]
  simp only [bind_assoc]
  unfold partPre
  iintro ⟨HO, ⟨F0, F1, F2, F3⟩, ⟨⟨X0, D0⟩, ⟨X1, D1⟩, ⟨X2, D2⟩, ⟨X3, D3⟩⟩, ⟨⟨N0, E0⟩, ⟨N1, E1⟩, P2, P3⟩⟩ Hk
  iapply (wp_issueIn d L xt 0 0) $$ [F0 X0]
  · isplitl [F0] <;> iassumption
  iintro S0
  iapply (wp_issueIn d L xt 0 1) $$ [F1 X1]
  · isplitl [F1] <;> iassumption
  iintro S1
  iapply (wp_waitIn d L xt 0 0 O W) $$ [S0 HO]
  · isplitl [S0] <;> iassumption
  iintro ⟨S0, HO⟩
  iapply (wp_issueIn d L xt 0 2) $$ [F2 X2]
  · isplitl [F2] <;> iassumption
  iintro S2
  iapply (wp_issueOut d L xt f₀ 0 0) $$ [S0 D0]
  · isplitl [S0] <;> iassumption
  iintro S0
  iapply (wp_waitIn d L xt 0 1 O W) $$ [S1 HO]
  · isplitl [S1] <;> iassumption
  iintro ⟨S1, HO⟩
  iapply (wp_issueIn d L xt 0 3) $$ [F3 X3]
  · isplitl [F3] <;> iassumption
  iintro S3
  iapply (wp_issueOut d L xt f₀ 0 1) $$ [S1 D1]
  · isplitl [S1] <;> iassumption
  iintro S1
  iapply (wp_waitIn d L xt 0 2 O W) $$ [S2 HO]
  · isplitl [S2] <;> iassumption
  iintro ⟨S2, HO⟩
  iapply (wp_waitOut d L xt 0 0 O W) $$ [S0 HO]
  · isplitl [S0] <;> iassumption
  iintro ⟨S0, D0, HO⟩
  iapply (wp_issueIn d L xt 1 0) $$ [S0 N0]
  · isplitl [S0] <;> iassumption
  iintro S0
  iapply (wp_issueOut d L xt f₀ 0 2) $$ [S2 D2]
  · isplitl [S2] <;> iassumption
  iintro S2
  iapply (wp_waitIn d L xt 0 3 O W) $$ [S3 HO]
  · isplitl [S3] <;> iassumption
  iintro ⟨S3, HO⟩
  iapply (wp_waitOut d L xt 0 1 O W) $$ [S1 HO]
  · isplitl [S1] <;> iassumption
  iintro ⟨S1, D1, HO⟩
  iapply (wp_issueIn d L xt 1 1) $$ [S1 N1]
  · isplitl [S1] <;> iassumption
  iintro S1
  iapply (wp_issueOut d L xt f₀ 0 3) $$ [S3 D3]
  · isplitl [S3] <;> iassumption
  iintro S3
  iapply Hk
  isplitl [HO]; · iexact HO
  isplitl [S0]; · iexact S0
  isplitl [S1]; · iexact S1
  isplitl [E0]; · iexact E0
  isplitl [E1]; · iexact E1
  isplitl [P2]; · iexact P2
  isplitl [P3]; · iexact P3
  isplitl [S2]; · iexact S2
  isplitl [S3]; · iexact S3
  isplitl [D0] <;> iassumption

theorem wp_mid (p q n : Fin 8) {k : PUnit → TProg (F := F) L} {Q : PUnit → sProp 𝕄} :
    iprop(Between d L xt f₀ O W p q ∗ roundPre d L xt f₀ n)
      ⊢ iprop((iprop(Between d L xt f₀ O W q n ∗ roundDone d L xt p) -∗ wpT d L (k ⟨⟩) Q) -∗ wpT d L (mid L p q n >>= k) Q) := by
  unfold roundPre roundDone Between mid
  rw [four, four]
  simp only [bind_assoc]
  unfold partPre
  iintro ⟨⟨HO, S0, S1, D0, D1, ⟨X2, D2⟩, ⟨X3, D3⟩, S2, S3, C0, C1⟩, ⟨⟨N0, E0⟩, ⟨N1, E1⟩, P2, P3⟩⟩ Hk
  iapply (wp_waitIn d L xt q 0 O W) $$ [S0 HO]
  · isplitl [S0] <;> iassumption
  iintro ⟨S0, HO⟩
  iapply (wp_waitOut d L xt p 2 O W) $$ [S2 HO]
  · isplitl [S2] <;> iassumption
  iintro ⟨S2, C2, HO⟩
  iapply (wp_issueIn d L xt q 2) $$ [S2 X2]
  · isplitl [S2] <;> iassumption
  iintro S2
  iapply (wp_issueOut d L xt f₀ q 0) $$ [S0 D0]
  · isplitl [S0] <;> iassumption
  iintro S0
  iapply (wp_waitIn d L xt q 1 O W) $$ [S1 HO]
  · isplitl [S1] <;> iassumption
  iintro ⟨S1, HO⟩
  iapply (wp_waitOut d L xt p 3 O W) $$ [S3 HO]
  · isplitl [S3] <;> iassumption
  iintro ⟨S3, C3, HO⟩
  iapply (wp_issueIn d L xt q 3) $$ [S3 X3]
  · isplitl [S3] <;> iassumption
  iintro S3
  iapply (wp_issueOut d L xt f₀ q 1) $$ [S1 D1]
  · isplitl [S1] <;> iassumption
  iintro S1
  iapply (wp_waitIn d L xt q 2 O W) $$ [S2 HO]
  · isplitl [S2] <;> iassumption
  iintro ⟨S2, HO⟩
  iapply (wp_waitOut d L xt q 0 O W) $$ [S0 HO]
  · isplitl [S0] <;> iassumption
  iintro ⟨S0, D0, HO⟩
  iapply (wp_issueIn d L xt n 0) $$ [S0 N0]
  · isplitl [S0] <;> iassumption
  iintro S0
  iapply (wp_issueOut d L xt f₀ q 2) $$ [S2 D2]
  · isplitl [S2] <;> iassumption
  iintro S2
  iapply (wp_waitIn d L xt q 3 O W) $$ [S3 HO]
  · isplitl [S3] <;> iassumption
  iintro ⟨S3, HO⟩
  iapply (wp_waitOut d L xt q 1 O W) $$ [S1 HO]
  · isplitl [S1] <;> iassumption
  iintro ⟨S1, D1, HO⟩
  iapply (wp_issueIn d L xt n 1) $$ [S1 N1]
  · isplitl [S1] <;> iassumption
  iintro S1
  iapply (wp_issueOut d L xt f₀ q 3) $$ [S3 D3]
  · isplitl [S3] <;> iassumption
  iintro S3
  iapply Hk
  isplitr [C0 C1 C2 C3]
  · isplitl [HO]; · iexact HO
    isplitl [S0]; · iexact S0
    isplitl [S1]; · iexact S1
    isplitl [E0]; · iexact E0
    isplitl [E1]; · iexact E1
    isplitl [P2]; · iexact P2
    isplitl [P3]; · iexact P3
    isplitl [S2]; · iexact S2
    isplitl [S3]; · iexact S3
    isplitl [D0] <;> iassumption
  isplitl [C0]; · iexact C0
  isplitl [C1]; · iexact C1
  isplitl [C2] <;> iassumption

theorem wp_last {k : PUnit → TProg (F := F) L} {Q : PUnit → sProp 𝕄} :
    (Between d L xt f₀ O W 6 7 : sProp 𝕄)
      ⊢ iprop((iprop(Owes d L O W ∗ (Free d L 0 ∗ Free d L 1 ∗ Free d L 2 ∗ Free d L 3) ∗ roundDone d L xt 6 ∗ roundDone d L xt 7) -∗ wpT d L (k ⟨⟩) Q)
          -∗ wpT d L (last L >>= k) Q) := by
  unfold roundDone Between last
  rw [four, four]
  simp only [bind_assoc]
  unfold partPre
  iintro ⟨HO, S0, S1, D0, D1, ⟨X2, D2⟩, ⟨X3, D3⟩, S2, S3, C0, C1⟩ Hk
  iapply (wp_waitIn d L xt 7 0 O W) $$ [S0 HO]
  · isplitl [S0] <;> iassumption
  iintro ⟨S0, HO⟩
  iapply (wp_waitOut d L xt 6 2 O W) $$ [S2 HO]
  · isplitl [S2] <;> iassumption
  iintro ⟨S2, C2, HO⟩
  iapply (wp_issueIn d L xt 7 2) $$ [S2 X2]
  · isplitl [S2] <;> iassumption
  iintro S2
  iapply (wp_issueOut d L xt f₀ 7 0) $$ [S0 D0]
  · isplitl [S0] <;> iassumption
  iintro S0
  iapply (wp_waitIn d L xt 7 1 O W) $$ [S1 HO]
  · isplitl [S1] <;> iassumption
  iintro ⟨S1, HO⟩
  iapply (wp_waitOut d L xt 6 3 O W) $$ [S3 HO]
  · isplitl [S3] <;> iassumption
  iintro ⟨S3, C3, HO⟩
  iapply (wp_issueIn d L xt 7 3) $$ [S3 X3]
  · isplitl [S3] <;> iassumption
  iintro S3
  iapply (wp_issueOut d L xt f₀ 7 1) $$ [S1 D1]
  · isplitl [S1] <;> iassumption
  iintro S1
  iapply (wp_waitIn d L xt 7 2 O W) $$ [S2 HO]
  · isplitl [S2] <;> iassumption
  iintro ⟨S2, HO⟩
  iapply (wp_issueOut d L xt f₀ 7 2) $$ [S2 D2]
  · isplitl [S2] <;> iassumption
  iintro S2
  iapply (wp_waitIn d L xt 7 3 O W) $$ [S3 HO]
  · isplitl [S3] <;> iassumption
  iintro ⟨S3, HO⟩
  iapply (wp_issueOut d L xt f₀ 7 3) $$ [S3 D3]
  · isplitl [S3] <;> iassumption
  iintro S3
  iapply (wp_waitOut d L xt 7 0 O W) $$ [S0 HO]
  · isplitl [S0] <;> iassumption
  iintro ⟨S0, D0, HO⟩
  iapply (wp_waitOut d L xt 7 1 O W) $$ [S1 HO]
  · isplitl [S1] <;> iassumption
  iintro ⟨S1, D1, HO⟩
  iapply (wp_waitOut d L xt 7 2 O W) $$ [S2 HO]
  · isplitl [S2] <;> iassumption
  iintro ⟨S2, D2, HO⟩
  iapply (wp_waitOut d L xt 7 3 O W) $$ [S3 HO]
  · isplitl [S3] <;> iassumption
  iintro ⟨S3, D3, HO⟩
  iapply Hk
  isplitl [HO]; · iexact HO
  isplitl [S0 S1 S2 S3]
  · isplitl [S0]; · iexact S0
    isplitl [S1]; · iexact S1
    isplitl [S2] <;> iassumption
  isplitl [C0 C1 C2 C3]
  · isplitl [C0]; · iexact C0
    isplitl [C1]; · iexact C1
    isplitl [C2] <;> iassumption
  isplitl [D0]; · iexact D0
  isplitl [D1]; · iexact D1
  isplitl [D2] <;> iassumption

/-- The whole ring: every part of the task's output ends as the merged input. -/
theorem wp_ring {Q : PUnit → sProp 𝕄} :
    iprop(Owes d L O W ∗ (Free d L 0 ∗ Free d L 1 ∗ Free d L 2 ∗ Free d L 3) ∗ bigSep Finset.univ fun q : Fin 8 => roundPre d L xt f₀ q)
      ⊢ iprop((iprop(Owes d L O W ∗ (Free d L 0 ∗ Free d L 1 ∗ Free d L 2 ∗ Free d L 3) ∗ bigSep Finset.univ fun q : Fin 8 => roundDone d L xt q) -∗ Q ⟨⟩)
          -∗ wpT d L (ring L) Q) := by
  rw [eight, eight, ← bind_pure (ring L)]
  unfold ring
  simp only [bind_assoc]
  iintro ⟨HO, HF, R0, R1, R2, R3, R4, R5, R6, R7⟩ Hk
  iapply (wp_first d L xt f₀ O W) $$ [HO HF R0 R1]
  · isplitl [HO]; · iexact HO
    isplitl [HF]; · iexact HF
    isplitl [R0] <;> iassumption
  iintro B
  iapply (wp_mid d L xt f₀ O W 0 1 2) $$ [B R2]
  · isplitl [B] <;> iassumption
  iintro ⟨B, R0⟩
  iapply (wp_mid d L xt f₀ O W 1 2 3) $$ [B R3]
  · isplitl [B] <;> iassumption
  iintro ⟨B, R1⟩
  iapply (wp_mid d L xt f₀ O W 2 3 4) $$ [B R4]
  · isplitl [B] <;> iassumption
  iintro ⟨B, R2⟩
  iapply (wp_mid d L xt f₀ O W 3 4 5) $$ [B R5]
  · isplitl [B] <;> iassumption
  iintro ⟨B, R3⟩
  iapply (wp_mid d L xt f₀ O W 4 5 6) $$ [B R6]
  · isplitl [B] <;> iassumption
  iintro ⟨B, R4⟩
  iapply (wp_mid d L xt f₀ O W 5 6 7) $$ [B R7]
  · isplitl [B] <;> iassumption
  iintro ⟨B, R5⟩
  iapply (wp_last d L xt f₀ O W) $$ B
  iintro ⟨HO, HF, R6, R7⟩
  unfold wpT
  rw [wp_pure]
  imodintro
  iapply Hk
  isplitl [HO]; · iexact HO
  isplitl [HF]; · iexact HF
  isplitl [R0]; · iexact R0
  isplitl [R1]; · iexact R1
  isplitl [R2]; · iexact R2
  isplitl [R3]; · iexact R3
  isplitl [R4]; · iexact R4
  isplitl [R5]; · iexact R5
  isplitl [R6] <;> iassumption

end Cert.Kernel.Ring
end
-- ==== Proof.Kernel.Task.lean ====
/- One task of the call: from what its subcore is given to what it gives back. -/
module

public import proofs.«01_k».proof.Proof.Kernel.Rounds

@[expose] public section

noncomputable section

namespace Cert.Kernel.Ring

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A family of distinct members of a set, taken out of what is held of the set. -/
theorem bigSep_take {I J : Type} [DecidableEq I] [DecidableEq J] [Fintype J] {s : Finset I} (f : J → I) (hf : Function.Injective f) (hs : ∀ j, f j ∈ s) (Φ : I → sProp 𝕄) :
    bigSep s Φ = iprop((bigSep Finset.univ fun j => Φ (f j)) ∗ bigSep (s \ Finset.univ.image f) Φ) := by
  rw [SparseCore.bigSep_sdiff_split' (t := Finset.univ.image f) (Finset.image_subset_iff.mpr fun j _ => hs j),
    SparseCore.bigSep_image_of_injOn hf.injOn]

variable (d : Dev nD) (L : grid0.Coords)

/-- The reference of slot `s`'s buffer. -/
abbrev bref : Fin 4 → Ref sig .scVector
  | 0 => cc0_scratch0
  | 1 => cc0_scratch1
  | 2 => cc0_scratch2
  | 3 => cc0_scratch3

abbrev procV : Proc τ := .scVector ((L 0).castLE hcore0) ((L 1).castLE hsub0)

/-- The eight semaphores of the ring. -/
abbrev rsem : Fin 4 ⊕ Fin 4 → DmaSem sig
  | .inl s => isem s
  | .inr s => osem s

theorem bref_injective : Function.Injective bref := by
  show ∀ s t, bref s = bref t → s = t
  decide

theorem rsem_injective : Function.Injective rsem := by
  show ∀ s t, rsem s = rsem t → s = t
  decide

theorem bref_owner (s : Fin 4) : ((procV L).devRef (bref s)).owner = .proc (procV L) := by
  match s with
  | 0 => rfl
  | 1 => rfl
  | 2 => rfl
  | 3 => rfl

theorem rsem_scoped : ∀ s, (SemLoc.dma (rsem s) : SemLoc sig).isScoped .scVector = true := by decide

/-- What the subcore owns of buffers and of semaphores besides the ring's. -/
def restBufs : sProp 𝕄 :=
  bigSep (ownRefs (τ := τ) (procV L) \ Finset.univ.image fun s => (procV L).devRef (bref s)) fun b => iprop(∃ f, ((d, b) : Loc nD τ sig) ↦{fullShare} f)
def restSems : sProp 𝕄 :=
  bigSep (ownCells (thrV d L) \ Finset.univ.image fun s => ((thrV d L, .dma (rsem s)) : GSem nD τ sig)) fun g => semVal g 0

theorem ownBufs_eq : (ownBufs (thrV d L) : sProp 𝕄)
    = iprop((bufAny d L 0 ∗ bufAny d L 1 ∗ bufAny d L 2 ∗ bufAny d L 3) ∗ restBufs d L) := by
  unfold SparseCore.Cfg.ownBufs restBufs
  refine (bigSep_take (fun s => (procV L).devRef (bref s)) (fun s t h => bref_injective (Proc.devRef_injective _ h))
    (fun s => SparseCore.Cfg.mem_ownRefs_of_owner (bref_owner L s)) _).trans ?_
  rw [four]
  rfl

theorem ownSems_eq : (ownSems0 (thrV d L) : sProp 𝕄)
    = iprop(((semVal (icell d L 0) 0 ∗ semVal (icell d L 1) 0 ∗ semVal (icell d L 2) 0 ∗ semVal (icell d L 3) 0)
        ∗ (semVal (ocell d L 0) 0 ∗ semVal (ocell d L 1) 0 ∗ semVal (ocell d L 2) 0 ∗ semVal (ocell d L 3) 0)) ∗ restSems d L) := by
  unfold SparseCore.Cfg.ownSems0 restSems
  refine (bigSep_take (fun s => ((thrV d L, .dma (rsem s)) : GSem nD τ sig)) (fun s t h => rsem_injective (SemLoc.dma.inj (Prod.mk.inj h).2))
    (fun s => mem_ownCells.mpr ⟨rfl, rsem_scoped s⟩) _).trans ?_
  rw [BI.bigSep_univ_sum, four, four]
  rfl

variable [FloatOps F] (xt : S8x64x192x196.Idx → Elt F .f32) (f₀ : S8x32x384x196.Idx → Elt F .f32) (O : CellTallies nD τ sig (HIx 1)) (W : Waits sig (HIx 1))

/-- What a task takes: its parts of the input and of the output. What it gives back: its parts of the output, filled. -/
def taskPre : sProp 𝕄 := bigSep Finset.univ fun q : Fin 8 => roundPre d L xt f₀ q
def taskDone : sProp 𝕄 := bigSep Finset.univ fun q : Fin 8 => roundDone d L xt q

theorem tile_body (hO : ∀ g, O g none = 0) :
    iprop(levAts (K (F := F)).L (K (F := F)).lev ∗ emp ∗ taskPre d L xt f₀
        ∗ scopedBufs (thrV d L) ∗ scopedSems0 (thrV d L) ∗ owes (thrV d L) O W)
      ⊢ wp frame (wpE (defs₀ (F := F)) 𝒱₀ (thrV d L) none) Set.univ
          (cc0_merge (F := F) L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 cc0_scratch11)
          fun _ => iprop(taskDone d L xt ∗ scopedBufs (thrV d L) ∗ scopedSems0 (thrV d L)
            ∗ ∃ W', ⌜∀ p ∈ W', p ∈ W ∨ p.2 = none⌝ ∗ owes (thrV d L) O W') := by
  rw [body_eq_ring, (K (F := F)).scopedBufs_V facts d ((L 0).castLE hcore0) ((L 1).castLE hsub0),
    SparseCore.Cfg.scopedSems0_V (Val := Elt F) d ((L 0).castLE hcore0) ((L 1).castLE hsub0), ownSems_eq d L, ownBufs_eq d L]
  iintro ⟨#Hlv, -, Hp, ⟨⟨B0, B1, B2, B3⟩, Hbufs⟩, ⟨⟨⟨I0, I1, I2, I3⟩, ⟨O0, O1, O2, O3⟩⟩, Hsems⟩, HO⟩
  ihave Hmw := (show levAts (K (F := F)).L (K (F := F)).lev ⊢ Transfers.MayWaits (thrV d L) (default : HIx 1) O from
    (K (F := F)).mayWaits_none (thr := thrV d L) hO) $$ Hlv
  iapply (wp_ring d L xt f₀ O W) $$ [Hmw HO B0 B1 B2 B3 I0 I1 I2 I3 O0 O1 O2 O3 Hp]
  · unfold Owes Free taskPre
    isplitl [Hmw HO]
    · isplitl [Hmw]; · iexact Hmw
      iexists W; isplitr
      · ipureintro; exact fun p hp => .inl hp
      · iexact HO
    isplitr [Hp]
    swap; · iexact Hp
    isplitl [B0 I0 O0]
    · isplitl [B0]; · iexact B0
      isplitl [I0] <;> iassumption
    isplitl [B1 I1 O1]
    · isplitl [B1]; · iexact B1
      isplitl [I1] <;> iassumption
    isplitl [B2 I2 O2]
    · isplitl [B2]; · iexact B2
      isplitl [I2] <;> iassumption
    · isplitl [B3]; · iexact B3
      isplitl [I3] <;> iassumption
  unfold Owes Free taskDone
  iintro ⟨⟨-, HO⟩, ⟨⟨B0, I0, O0⟩, ⟨B1, I1, O1⟩, ⟨B2, I2, O2⟩, ⟨B3, I3, O3⟩⟩, Hd⟩
  isplitl [Hd]; · iexact Hd
  isplitl [B0 B1 B2 B3 Hbufs]
  · isplitr [Hbufs]
    swap; · iexact Hbufs
    isplitl [B0]; · iexact B0
    isplitl [B1]; · iexact B1
    isplitl [B2] <;> iassumption
  isplitr [HO]
  swap; · iexact HO
  isplitr [Hsems]
  swap; · iexact Hsems
  isplitl [I0 I1 I2 I3]
  · isplitl [I0]; · iexact I0
    isplitl [I1]; · iexact I1
    isplitl [I2] <;> iassumption
  · isplitl [O0]; · iexact O0
    isplitl [O1]; · iexact O1
    isplitl [O2] <;> iassumption

end Cert.Kernel.Ring

end
-- ==== Proof.Kernel.Launch.lean ====
/- The whole program: the transpose, the call, the transpose back. -/
module

public import proofs.«01_k».proof.Proof.Kernel.Task

@[expose] public section

noncomputable section

namespace Cert.Kernel.Ring

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev EH : Emb UH (MT nD τ sig (HIx 1) (Elt F) ℕ UU ℕ) := embL

abbrev aLoc (d : Dev nD) : Loc nD τ sig := (SparseCore.T d).loc main_arg0
abbrev rLoc (d : Dev nD) : Loc nD τ sig := (SparseCore.T d).loc main_v2

/-- The input with its two last axes exchanged; the output with them exchanged back; the result as a function of the argument. -/
def toCols (a : S8x64x196x192.Idx → Elt F .f32) : S8x64x192x196.Idx → Elt F .f32 :=
  transpose S8x64x192x196 [0, 1, 3, 2] a transposes_S8x64x196x192_S8x64x192x196_0_1_3_2
def toRows (a : S8x32x384x196.Idx → Elt F .f32) : S8x32x196x384.Idx → Elt F .f32 :=
  transpose S8x32x196x384 [0, 1, 3, 2] a transposes_S8x32x384x196_S8x32x196x384_0_1_3_2
def result (a : S8x64x196x192.Idx → Elt F .f32) : S8x32x196x384.Idx → Elt F .f32 := toRows (merged (toCols a))

/-! ## The parts of all tasks are the two arrays -/

theorem xParts (d : Dev nD) (f : Buf (Elt F) (xLoc d)) :
    (xLoc d ↦{fullShare} f : sProp 𝕄) = bigSep Finset.univ fun t : Part => (xLoc d ↦[partSrc t]{fullShare} f) := by
  rw [← pointsTo_biUnion (ℓ := xLoc d) Finset.univ partSrc src_disjoint, src_cover]

theorem oParts (d : Dev nD) (f : Buf (Elt F) (oLoc d)) :
    (oLoc d ↦{fullShare} f : sProp 𝕄) = bigSep Finset.univ fun t : Part => (oLoc d ↦[partDst t]{fullShare} f) := by
  rw [← pointsTo_biUnion (ℓ := oLoc d) Finset.univ partDst dst_disjoint, dst_cover]

variable [FloatOps F]

theorem pre_all (d : Dev nD) (xt : S8x64x192x196.Idx → Elt F .f32) (f₀ : S8x32x384x196.Idx → Elt F .f32) :
    (bigSep Finset.univ fun c : Fin 2 => bigSep Finset.univ fun i : Fin 16 => taskPre d (coordsV c i) xt f₀)
      = iprop((xLoc d ↦{fullShare} (xt : Buf (Elt F) (xLoc d))) ∗ oLoc d ↦{fullShare} (f₀ : Buf (Elt F) (oLoc d))) := by
  rw [xParts, oParts, ← bigSep_sep']
  simp only [BI.bigSep_univ_prod]
  rfl

theorem done_all (d : Dev nD) (xt : S8x64x192x196.Idx → Elt F .f32) :
    (bigSep Finset.univ fun c : Fin 2 => bigSep Finset.univ fun i : Fin 16 => taskDone d (coordsV c i) xt)
      = (oLoc d ↦{fullShare} (merged xt : Buf (Elt F) (oLoc d)) : sProp 𝕄) := by
  rw [oParts]
  simp only [BI.bigSep_univ_prod]
  rfl

/-! ## What the call hands over -/

variable (m : (ℓ : Loc nD τ sig) → Buf (Elt F) ℓ) (ρ : Dev nD → PrngReg)

/-- What the call finds in its input and in its output. -/
abbrev xt (d : Dev nD) : S8x64x192x196.Idx → Elt F .f32 := toCols (m (aLoc d))
abbrev o₀ (d : Dev nD) : S8x32x384x196.Idx → Elt F .f32 := m (oLoc d)

/-- Each task takes its parts and brings back those of the output; a SparseCore takes and brings back its tasks' together. -/
def P : (K (F := F)).Pay (nD := nD) (Val := Elt F) (Name := ℕ) (U := UU) where
  st := fun q d c => match q with | 0 => bigSep Finset.univ fun i : Fin 16 => taskPre d (coordsV c i) (xt m d) (o₀ m d)
  dn := fun q d c => match q with | 0 => bigSep Finset.univ fun i : Fin 16 => taskDone d (coordsV c i) (xt m d)
  go := fun q d c i => match q with | 0 => taskPre d (coordsV c i) (xt m d) (o₀ m d)
  td := fun q d c i => match q with | 0 => taskDone d (coordsV c i) (xt m d)
  x := fun _ _ => iprop(emp)

instance taskPre_storable (d : Dev nD) (L : grid0.Coords) (xt : S8x64x192x196.Idx → Elt F .f32) (f₀ : S8x32x384x196.Idx → Elt F .f32) :
    BI.Storable (upEmb : UEmb _ 𝕄) (taskPre d L xt f₀) := by
  unfold taskPre roundPre partPre srcPts dstPts
  infer_instance

instance taskDone_storable (d : Dev nD) (L : grid0.Coords) (xt : S8x64x192x196.Idx → Elt F .f32) :
    BI.Storable (upEmb : UEmb _ 𝕄) (taskDone d L xt) := by
  unfold taskDone roundDone dstPts
  infer_instance

theorem tasksPre_storable (d : Dev nD) (c : Fin 2) (xt : S8x64x192x196.Idx → Elt F .f32) (f₀ : S8x32x384x196.Idx → Elt F .f32) :
    BI.Storable (upEmb : UEmb _ 𝕄) (bigSep Finset.univ fun i : Fin 16 => taskPre d (coordsV c i) xt f₀) :=
  haveI := fun i : Fin 16 => taskPre_storable d (coordsV c i) xt f₀
  BI.Storable.bigSep _ _ _

theorem tasksDone_storable (d : Dev nD) (c : Fin 2) (xt : S8x64x192x196.Idx → Elt F .f32) :
    BI.Storable (upEmb : UEmb _ 𝕄) (bigSep Finset.univ fun i : Fin 16 => taskDone d (coordsV c i) xt) :=
  haveI := fun i : Fin 16 => taskDone_storable d (coordsV c i) xt
  BI.Storable.bigSep _ _ _

instance P_storable : (P (F := F) m).IsStorable where
  st q d c := match q with
    | 0 => tasksPre_storable d c (xt m d) (o₀ m d)
  dn q d c := match q with
    | 0 => tasksDone_storable d c (xt m d)
  go q d c i := match q with
    | 0 => taskPre_storable d (coordsV c i) (xt m d) (o₀ m d)
  td q d c i := match q with
    | 0 => taskDone_storable d (coordsV c i) (xt m d)

theorem defs₀_vector (c : Fin τ.nSC) (s : Fin τ.nSub) :
    defs₀ (F := F) (.scVector c s) 0 ()
      = SparseCore.onTile hcore0 hsub0 (fun c s => cc0_merge (F := F) (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scratch10 cc0_scratch11) ⟨⟩ c s := rfl

/-- The waits a task records are its own, which the call's account allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xt m d) (o₀ m d) O W hO).trans (wp_mono frame _ _ fun _ => obl_post)

theorem vecSplit : (K (F := F)).VecSplit' (P m) 0 := by
  intro d c
  show (bigSep Finset.univ fun i : Fin 16 => taskPre d (coordsV c i) (xt m d) (o₀ m d)) ⊢ |={Set.univ}=> iprop(
      (bigSep Finset.univ fun i : Fin 16 => taskPre d (coordsV c i) (xt m d) (o₀ m d))
      ∗ ((bigSep Finset.univ fun i : Fin 16 => taskDone d (coordsV c i) (xt m d))
          -∗ (bigSep Finset.univ fun i : Fin 16 => taskDone d (coordsV c i) (xt m d))))
  iintro H; imodintro
  isplitl [H]; · iexact H
  iintro H; iexact H

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), hemp]
  iempintro

/-! ## The program on the host's core -/

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = iprop((xLoc d ↦{fullShare} (xt m d : Buf (Elt F) (xLoc d))) ∗ oLoc d ↦{fullShare} m (oLoc d)) :=
  pre_all d (xt m d) (o₀ m d)
theorem dn0_eq (d : Dev nD) : (bigSep Finset.univ fun c : Fin ((K (F := F)).nCore 0) => (P m).dn 0 d c)
    = (oLoc d ↦{fullShare} (merged (xt m d) : Buf (Elt F) (oLoc d)) : sProp 𝕄) :=
  done_all d (xt m d)

/-- An operation of one operand: the operand is kept, the result is the function's value at it. -/
theorem wp_unary (m : (ℓ : Loc nD τ sig) → Buf (Elt F) ℓ) (d : Dev nD) {x y : Ref sig .tc} (hxy : x ≠ y) (f : x.ty.Contents (Elt F) → y.ty.Contents (Elt F)) (hx) (hy)
    (a : x.ty.Contents (Elt F)) (b : y.ty.Contents (Elt F)) {hp} {p : Prog (TpuEff nD τ sig (Elt F) (SparseCore.Sig (ΛP (F := F)) 1) .tc) PUnit} {Q : PUnit → sProp 𝕄} :
    iprop(boundary (SparseCore.T d) ∗ ((SparseCore.T d).loc x ↦{fullShare} (a : Buf (Elt F) ((SparseCore.T d).loc x))) ∗ (SparseCore.T d).loc y ↦{fullShare} (b : Buf (Elt F) ((SparseCore.T d).loc y)))
      ⊢ iprop((iprop(boundary (SparseCore.T d) ∗ ((SparseCore.T d).loc x ↦{fullShare} (a : Buf (Elt F) ((SparseCore.T d).loc x))) ∗ (SparseCore.T d).loc y ↦{fullShare} (f a : Buf (Elt F) ((SparseCore.T d).loc y)))
            -∗ wp frame (wpE ((K (F := F)).defs (D (F := F))) 𝒱 (SparseCore.T d) none) Set.univ p Q)
          -∗ wp frame (wpE ((K (F := F)).defs (D (F := F))) 𝒱 (SparseCore.T d) none) Set.univ (hlo hp (StableHlo.unary x y f hx hy) (fun _ => p)) Q) := by
  have hne : (Proc.devRef .tc x : DevRef τ sig) ≠ Proc.devRef .tc y := fun e => hxy (Proc.devRef_injective _ e)
  have hS : ∀ W : Valuation τ sig (Elt F), (held (SparseCore.T d) {(Proc.devRef .tc x : DevRef τ sig), Proc.devRef .tc y} W : sProp 𝕄)
      = iprop(((SparseCore.T d).loc x ↦{fullShare} (W (Proc.devRef .tc x) : Buf (Elt F) ((SparseCore.T d).loc x))) ∗ (SparseCore.T d).loc y ↦{fullShare} (W (Proc.devRef .tc y) : Buf (Elt F) ((SparseCore.T d).loc y))) := fun W => by
    unfold held
    rw [SparseCore.bigSep_insert' (by simpa using hne), bigSep_singleton]
  have := wp_hlo_within (defs := (K (F := F)).defs (D (F := F))) 𝒱 (SparseCore.T d) none Set.univ (hp := hp) (op := StableHlo.unary x y f hx hy) (k := fun _ => p)
    (S := {(Proc.devRef .tc x : DevRef τ sig), Proc.devRef .tc y}) (Finset.Subset.refl _)
    (V := Function.update (Function.update (fun r => m (d, r)) (Proc.devRef .tc x) a) (Proc.devRef .tc y) b) (Q := Q)
  rw [hS, hS, StableHlo.unary_result, StableHlo.unary_result_ne _ _ _ _ _ _ hxy, Function.update_self, Function.update_of_ne hne, Function.update_self] at this
  exact this

/-- What the program leaves: the argument as it was, and its result. -/
abbrev FIN (d : Dev nD) : sProp 𝕄 := iprop((aLoc d ↦{fullShare} m (aLoc d)) ∗ rLoc d ↦{fullShare} (result (m (aLoc d)) : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho, Hr⟩, Hts, -⟩, -⟩
  iapply (wp_unary m d (x := main_arg0) (y := main_v0) (by decide) toCols _ _ (m (aLoc d)) (m (xLoc d))) $$ [Hb Ha Hx]
  · isplitl [Hb]; · iexact Hb
    isplitl [Ha] <;> iassumption
  iintro ⟨Hb, Ha, Hx⟩
  rw [wp_ret]; imodintro
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st0_eq]
    isplitl [Hx] <;> iassumption
  iintro ⟨Hst, Hdn⟩
  ihave Ho := (Entails.of_eq (dn0_eq m d)) $$ Hdn
  iapply (wp_unary m d (x := main_v1) (y := main_v2) (by decide) toRows _ _ (merged (xt m d)) (m (rLoc d))) $$ [Hb Ho Hr]
  · isplitl [Hb]; · iexact Hb
    isplitl [Ho] <;> iassumption
  iintro ⟨Hb, -, Hr⟩
  rw [wp_ret]; imodintro; imodintro
  isplitl [Hst]; · iexact Hst
  isplitl [Ha Hr]
  · isplitl [Ha]; · iexact Ha
    iexact Hr
  isplitl [Hb] <;> iassumption

/-! ## The program's run -/

def fq (d : Dev nD) (s' : Phys nD τ sig (Elt F)) : Prop :=
  s'.mem.mem (aLoc d) = m (aLoc d) ∧ s'.mem.mem (rLoc d) = (result (m (aLoc d)) : Buf (Elt F) (rLoc d))

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := (result (m (aLoc d)) : Buf (Elt F) (rLoc d)))) $$ [HSI Hr]
  · isplitl [HSI] <;> iassumption
  icases H with %hr
  ipureintro; exact ⟨funext fun i => ha i (Finset.mem_univ i), funext fun i => hr i (Finset.mem_univ i)⟩

def Ends (r : PUnit × MemSt nD τ sig (Elt F)) : Prop :=
  (∀ c : Dev nD, r.2.mem (aLoc c) = m (aLoc c) ∧ r.2.mem (rLoc c) = (result (m (aLoc c)) : Buf (Elt F) (rLoc c))) ∧ r.2.sem = fun _ => 0

theorem run_main [∀ e, Nonempty (Elt F e)] : θ_run (Cert.Kernel.defs (F := F)) (Cert.Kernel.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Kernel.Ring

end
-- ==== Proof.Reference.Value.lean ====
/- What the reference computes, element by element. -/
module

public import proofs.«01_k».proof.Proof.Gen.ReferenceIdeal.Run
public import Idealize.ShloMosaic.Lib.Pipeline.Value
public import Idealize.ShloMosaic.Lib.ReduceAll

@[expose] public section

noncomputable section

namespace Cert.ReferenceIdeal.Halves

open Cert.ReferenceIdeal Cert.ReferenceIdeal.Gen
open Idealize.ShloMosaic Idealize.SL.Sem

variable {F : FTy → Type} [FloatOps F]

/-- The frames of one half: `n`, `n + 2`, …, `n + 62`; then as the lookup takes them, one counted from the end brought into range. -/
abbrev rows (n : BitVec 32) : IVec S32 32 :=
  addi (broadcastInDim S32 ![] bcast_S_S32 (constantI S_ 32 n)) (muli (broadcastInDim S32 ![] bcast_S_S32 (constantI S_ 32 2#32)) (iotaInDim S32 32 0))
abbrev starts (n : BitVec 32) : IVec S32x1 32 :=
  broadcastInDim S32x1 ![0] bcast_S32_S32x1_0
    (select (cmpi .slt (rows n) (broadcastInDim S32 ![] bcast_S_S32 (constantI S_ 32 0#32))) (addi (rows n) (broadcastInDim S32 ![] bcast_S_S32 (constantI S_ 32 64#32))) (rows n))

/-- Which of the rows are in range. -/
abbrev valid (n : BitVec 32) : IVec S32 1 :=
  Host.reduce IntOp.andi (andi (cmpi .sge (starts n) (broadcastInDim S32x1 ![] bcast_S_S32x1 (constantI S_ 32 0#32)))
      (cmpi .sle (starts n) (broadcastInDim S32x1 ![0, 1] bcast_S1x1_S32x1_0_1 (broadcastInDim S1x1 ![1] bcast_S1_S1x1_1 (constantI S1 32 63#32)))))
    (constantI S_ 1 1#1) reducesTo_S32x1_S32_d1 h_S_

/-- One half of the result: the rows looked up. -/
abbrev half (x : S8x64x196x192.Idx → Elt F .f32) (n : BitVec 32) : S8x32x196x192.Idx → Elt F .f32 :=
  select (broadcastInDim S8x32x196x192 ![1] bcast_S32_S8x32x196x192_1 (valid n))
    (Host.gather gather_S8x64x196x192_S32x1_S8x32x196x192_023_1_n_n_1_1_81196192 x (starts n))
    (broadcastInDim S8x32x196x192 ![] bcast_S_S8x32x196x192 (constant S_ .f32 0x7FC00000#32))

theorem res_eq (m : (ℓ : Loc nD τ sig) → Buf (Elt F) ℓ) (c : Dev nD) :
    Value.res_out0 m c = concatenate S8x32x196x384 3
      [⟨S8x32x196x192, half (m ((c.tc : Thread nD τ).loc main_arg0)) 0#32⟩, ⟨S8x32x196x192, half (m ((c.tc : Thread nD τ).loc main_arg0)) 1#32⟩]
      concatenates_S8x32x196x192_S8x32x196x192_S8x32x196x384_d3 := rfl

/-- The index of row `k`'s number. -/
abbrev rowIdx (k : Fin 32) : S32x1.Idx := fun | 0 => k | 1 => (0 : Fin 1) | ⟨_ + 2, h⟩ => absurd h (Nat.not_lt.2 (Nat.le_add_left _ _))

theorem rowIdx_eta (i : S32x1.Idx) : i = rowIdx (i 0) := by
  have h1 : (i 1).val < 1 := (i 1).isLt
  funext a; apply Fin.ext
  match a with
  | 0 => rfl
  | 1 => show (i 1).val = 0; omega

theorem starts_eq : ∀ (h : Fin 2) (k : Fin 32), starts (BitVec.ofNat 32 h.val) (rowIdx k) = BitVec.ofNat 32 (2 * k.val + h.val) := by
  decide +kernel

/-- Every row is in range. -/
theorem inRange : ∀ (h : Fin 2) (k : Fin 32),
    (andi (cmpi .sge (starts (BitVec.ofNat 32 h.val)) (broadcastInDim S32x1 ![] bcast_S_S32x1 (constantI S_ 32 0#32)))
      (cmpi .sle (starts (BitVec.ofNat 32 h.val)) (broadcastInDim S32x1 ![0, 1] bcast_S1x1_S32x1_0_1 (broadcastInDim S1x1 ![1] bcast_S1_S1x1_1 (constantI S1 32 63#32))))) (rowIdx k) = 1#1 := by
  decide +kernel

theorem valid_eq (h : Fin 2) (i : S32.Idx) : valid (BitVec.ofNat 32 h.val) i = 1#1 := by
  refine Host.reduce_andi_one _ _ _ _ _ rfl fun j => ?_
  rw [rowIdx_eta j]; exact inRange h (j 0)

/-- The element of the input that a half shows at `y`: frame `2 * y₁ + h`, the other coordinates `y`'s. -/
def from' (h : Fin 2) (y : S8x32x196x192.Idx) : S8x64x196x192.Idx :=
  have h1 : (y 1).val < 32 := (y 1).isLt
  fun | 0 => y 0 | 1 => (⟨2 * (y 1).val + h.val, by omega⟩ : Fin 64) | 2 => y 2 | 3 => y 3
      | ⟨_ + 4, h⟩ => absurd h (Nat.not_lt.2 (Nat.le_add_left _ _))

theorem start_clamp : ∀ (h : Fin 2) (k : Fin 32), min (BitVec.ofNat 32 (2 * k.val + h.val)).toInt.toNat 63 = 2 * k.val + h.val := by
  decide +kernel

theorem lookup {α : Type} (x : S8x64x196x192.Idx → α) (h : Fin 2) (y : S8x32x196x192.Idx) :
    Host.gather gather_S8x64x196x192_S32x1_S8x32x196x192_023_1_n_n_1_1_81196192 x (starts (BitVec.ofNat 32 h.val)) y = x (from' h y) := by
  have hsi : GatherDims.siIdx gather_S8x64x196x192_S32x1_S8x32x196x192_023_1_n_n_1_1_81196192 y ⟨0, by decide⟩ = rowIdx (y 1) := by
    funext b; apply Fin.ext
    match b with
    | 0 => rfl
    | 1 => rfl
  have h1 : GatherDims.start gather_S8x64x196x192_S32x1_S8x32x196x192_023_1_n_n_1_1_81196192 y (starts (BitVec.ofNat 32 h.val)) 1 = 2 * (y 1).val + h.val := by
    refine Eq.trans ?_ (start_clamp h (y 1))
    rw [← starts_eq h (y 1), ← hsi]
    rfl
  unfold Host.gather
  refine congrArg x (funext fun a => Fin.ext ?_)
  match a with
  | 0 => exact Nat.zero_add _
  | 1 => exact h1
  | 2 => exact Nat.zero_add _
  | 3 => exact Nat.zero_add _

theorem half_apply (x : S8x64x196x192.Idx → Elt F .f32) (h : Fin 2) (y : S8x32x196x192.Idx) :
    half x (BitVec.ofNat 32 h.val) y = x (from' h y) := by
  have hv : broadcastInDim S8x32x196x192 ![1] bcast_S32_S8x32x196x192_1 (valid (BitVec.ofNat 32 h.val)) y = 1#1 := valid_eq h _
  refine Eq.trans ?_ (lookup x h y)
  show (if _ = _ then _ else _) = _
  exact if_pos hv

end Cert.ReferenceIdeal.Halves

end
-- ==== Proof.Equal.lean ====
/- The kernel's result is the reference's. -/
module

public import proofs.«01_k».proof.Proof.Kernel.Launch
public import proofs.«01_k».proof.Proof.Reference.Value

@[expose] public section

noncomputable section

namespace Cert.Proof

open Idealize.ShloMosaic

variable {F : FTy → Type} [FloatOps F]

abbrev Arg : Shape := Cert.ReferenceIdeal.S8x64x196x192
abbrev Res : Shape := Cert.ReferenceIdeal.S8x32x196x384

/-- Where the result's element at `j` comes from in the argument: channel `j₃ % 192` of frame `2 * j₁ + j₃ / 192`. -/
def source (j : Res.Idx) : Arg.Idx :=
  have h1 : (j 1).val < 32 := (j 1).isLt
  have h3 : (j 3).val < 384 := (j 3).isLt
  fun | 0 => j 0 | 1 => (⟨2 * (j 1).val + (j 3).val / 192, by omega⟩ : Fin 64) | 2 => j 2 | 3 => (⟨(j 3).val % 192, by omega⟩ : Fin 192)
      | ⟨_ + 4, h⟩ => absurd h (Nat.not_lt.2 (Nat.le_add_left _ _))

/-- `j` with its two last coordinates exchanged. -/
def swap (j : Res.Idx) : Cert.Kernel.S8x32x384x196.Idx :=
  fun | 0 => j 0 | 1 => j 1 | 2 => j 3 | 3 => j 2 | ⟨_ + 4, h⟩ => absurd h (Nat.not_lt.2 (Nat.le_add_left _ _))

theorem kernel_apply (a : Arg.Idx → Elt F .f32) (j : Res.Idx) : Cert.Kernel.Ring.result a j = a (source j) := by
  unfold Cert.Kernel.Ring.result Cert.Kernel.Ring.toRows
  refine (transpose_apply _ _ _ _ (swap j) fun b => ?_).trans ?_
  · match b with
    | 0 => rfl
    | 1 => rfl
    | 2 => rfl
    | 3 => rfl
  · unfold Cert.Kernel.Ring.merged Cert.Kernel.Ring.toCols
    refine transpose_apply _ _ _ _ (source j) fun b => ?_
    match b with
    | 0 => rfl
    | 1 => rfl
    | 2 => rfl
    | 3 => rfl

/-- The place in its half of the result's element at `j`. -/
def place (j : Res.Idx) : Cert.ReferenceIdeal.S8x32x196x192.Idx :=
  have h3 : (j 3).val < 384 := (j 3).isLt
  fun | 0 => j 0 | 1 => j 1 | 2 => j 2 | 3 => (⟨(j 3).val % 192, by omega⟩ : Fin 192)
      | ⟨_ + 4, h⟩ => absurd h (Nat.not_lt.2 (Nat.le_add_left _ _))

theorem from_place (h : Fin 2) (j : Res.Idx) (hj : (j 3).val / 192 = h.val) : Cert.ReferenceIdeal.Halves.from' h (place j) = source j := by
  funext a; apply Fin.ext
  match a with
  | 0 => rfl
  | 1 => show 2 * (j 1).val + h.val = 2 * (j 1).val + (j 3).val / 192; omega
  | 2 => rfl
  | 3 => rfl

theorem reference_apply (m : (ℓ : Loc Cert.ReferenceIdeal.nD Cert.ReferenceIdeal.τ Cert.ReferenceIdeal.sig) → Buf (Elt F) ℓ) (c : Dev Cert.ReferenceIdeal.nD) (j : Res.Idx) :
    Cert.ReferenceIdeal.Value.res_out0 m c j = m ((c.tc : Thread Cert.ReferenceIdeal.nD Cert.ReferenceIdeal.τ).loc Cert.ReferenceIdeal.main_arg0) (source j) := by
  have h3 : (j 3).val < 384 := (j 3).isLt
  rw [Cert.ReferenceIdeal.Halves.res_eq]
  by_cases hj : (j 3).val < 192
  · refine (concatenate_pair_apply_left (t := Res) (s₁ := Cert.ReferenceIdeal.S8x32x196x192) (s₂ := Cert.ReferenceIdeal.S8x32x196x192) 3 _ _ _ j rfl (place j) fun b => ?_).trans
      ((Cert.ReferenceIdeal.Halves.half_apply _ 0 _).trans (congrArg _ (from_place 0 j (by show _ = 0; omega))))
    match b with
    | 0 => rfl
    | 1 => rfl
    | 2 => rfl
    | 3 => show (j 3).val % 192 = (j 3).val; omega
  · refine (concatenate_pair_apply_right (t := Res) (s₁ := Cert.ReferenceIdeal.S8x32x196x192) (s₂ := Cert.ReferenceIdeal.S8x32x196x192) 3 _ _ _ j rfl rfl (place j) (fun b hb => ?_) ?_).trans
      ((Cert.ReferenceIdeal.Halves.half_apply _ 1 _).trans (congrArg _ (from_place 1 j (by show _ = 1; omega))))
    · match b with
      | 0 => rfl
      | 1 => rfl
      | 2 => rfl
      | 3 => exact absurd rfl hb
    · show (j 3).val % 192 + 192 = (j 3).val; omega

end Cert.Proof

end
-- ==== Proof.lean ====
/- The five claims: the kernel and the reference run and end clean, and their results are equal.

   The kernel's run is `Cert.Kernel.Ring.run_main`, proved for any float values. The idealized kernel is the same program, printed a second
   time under another name (no operation was rewritten), so its run is that one read at the extended reals. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.Equal
public import Idealize.ShloMosaic.Adequacy
public import Idealize.ShloMosaic.Init

@[expose] public section

noncomputable section

namespace Cert.Proof

open Idealize.ShloMosaic Idealize.SL.Sem

theorem kernel_frame : Cert.quiescent_Kernel (hKernel := Cert.Kernel.Gen.facts) := fun m ρ _ =>
  (θ_run Cert.Kernel.defs _ _).mono (fun _ h => ⟨fun c => (h.1 c).1, h.2⟩) (Cert.Kernel.Ring.run_main (F := Bits) m ρ)

set_option maxRecDepth 100000 in
theorem ideal_defs : Cert.KernelIdeal.defs (F := Ideal) = Cert.Kernel.defs (F := Ideal) := rfl

set_option maxRecDepth 100000 in
theorem ideal_threads : Cert.KernelIdeal.threads (F := Ideal) = Cert.Kernel.threads (F := Ideal) := rfl

/-- The idealized kernel's run. -/
theorem ideal_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (Cert.Kernel.Ring.Ends (F := Ideal) m) := by
  rw [ideal_defs, ideal_threads]
  exact Cert.Kernel.Ring.run_main (F := Ideal) m ρ

theorem ideal_frame : Cert.quiescent_KernelIdeal (hKernelIdeal := Cert.KernelIdeal.Gen.facts) := fun m ρ _ =>
  (θ_run Cert.KernelIdeal.defs _ _).mono (fun _ h => ⟨fun c => (h.1 c).1, h.2⟩) (ideal_run m ρ)

/-- The reference declares no semaphore, so every counter ends at zero. -/
theorem reference_frame : Cert.quiescent_ReferenceIdeal (hReferenceIdeal := Cert.ReferenceIdeal.Gen.facts) := fun m ρ _ =>
  (θ_run Cert.ReferenceIdeal.defs _ _).mono (fun _ h => ⟨fun c => (h c).2, funext fun g => nomatch g.2⟩) (Cert.ReferenceIdeal.Value.run (F := Ideal) m ρ)

/-- Both results are the argument with its frames merged in pairs. -/
theorem equal : Cert.algebraic_KernelIdeal_ReferenceIdeal (hKernelIdeal := Cert.KernelIdeal.Gen.facts) (hReferenceIdeal := Cert.ReferenceIdeal.Gen.facts) :=
  fun m ρ m' ρ' _ hm =>
    ⟨fun c => Cert.Kernel.Ring.result (F := Ideal) (m ((c.tc : Thread Cert.KernelIdeal.nD Cert.KernelIdeal.τ).loc Cert.KernelIdeal.main_arg0)),
      (θ_run Cert.KernelIdeal.defs _ _).mono (fun _ h c => ⟨(h.1 c).2, (h.1 c).1⟩) (ideal_run m ρ),
      (θ_run Cert.ReferenceIdeal.defs _ _).mono
        (fun _ h c => ⟨(h c).1.trans (funext fun j => (reference_apply m' c j).trans
          ((congrFun (hm c) (source j)).trans (kernel_apply (F := Ideal) _ j).symm)), (h c).2⟩)
        (Cert.ReferenceIdeal.Value.run (F := Ideal) m' ρ')⟩

theorem claim : Cert.Claim :=
  ⟨Cert.Kernel.Gen.facts, Cert.KernelIdeal.Gen.facts, Cert.ReferenceIdeal.Gen.facts, kernel_frame, ideal_frame, reference_frame, trivial, equal⟩

end Cert.Proof

end
